-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_apart [hPre_nearest_apart : Cert.Pre_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_apart [hPre_nearest_apart : Cert.Pre_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nearest_apart [hKernelIdeal : Cert.KernelIdeal.Facts] [hPre_nearest_apart : Cert.Pre_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nearest_apart [hReferenceIdeal : Cert.ReferenceIdeal.Facts] [hPre_nearest_apart : Cert.Pre_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_nearest_apart [hKernelIdeal : Cert.KernelIdeal.Facts] [hReferenceIdeal : Cert.ReferenceIdeal.Facts] [hPre_nearest_apart : Cert.Pre_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nearest_apart : Cert.Pre_nearest_apart.Facts),
    quiescent_Kernel (hKernel := hKernel)
    ∧ quiescent_KernelIdeal (hKernelIdeal := hKernelIdeal)
    ∧ quiescent_KernelIdeal_pre_nearest_apart (hKernelIdeal := hKernelIdeal) (hPre_nearest_apart := hPre_nearest_apart)
    ∧ quiescent_ReferenceIdeal (hReferenceIdeal := hReferenceIdeal)
    ∧ quiescent_ReferenceIdeal_pre_nearest_apart (hReferenceIdeal := hReferenceIdeal) (hPre_nearest_apart := hPre_nearest_apart)
    ∧ preserves_Kernel_KernelIdeal
    ∧ algebraic_KernelIdeal_ReferenceIdeal_pre_nearest_apart (hKernelIdeal := hKernelIdeal) (hReferenceIdeal := hReferenceIdeal) (hPre_nearest_apart := hPre_nearest_apart)
-- ==== Pre_nearest_apart.lean ====
abbrev S1024x3x32x32 : Shape := ⟨4, ![1024, 3, 32, 32]⟩
abbrev S3072x3072 : Shape := ⟨2, ![3072, 3072]⟩
abbrev S50000x30 : Shape := ⟨2, ![50000, 30]⟩
abbrev S50000x10 : Shape := ⟨2, ![50000, 10]⟩
abbrev S1024x3072 : Shape := ⟨2, ![1024, 3072]⟩
abbrev S_ : Shape := ⟨0, ![]⟩
abbrev S1024 : Shape := ⟨1, ![1024]⟩
abbrev S1024x1 : Shape := ⟨2, ![1024, 1]⟩
abbrev S3072x30 : Shape := ⟨2, ![3072, 30]⟩
abbrev S1024x30 : Shape := ⟨2, ![1024, 30]⟩
abbrev S50000 : Shape := ⟨1, ![50000]⟩
abbrev S50000x1 : Shape := ⟨2, ![50000, 1]⟩
abbrev S1x1024 : Shape := ⟨2, ![1, 1024]⟩
abbrev S50000x1024 : Shape := ⟨2, ![50000, 1024]⟩
abbrev S30x1024 : Shape := ⟨2, ![30, 1024]⟩
abbrev S1024x50000 : Shape := ⟨2, ![1024, 50000]⟩
abbrev S1024x18 : Shape := ⟨2, ![1024, 18]⟩
abbrev S1024x18x18 : Shape := ⟨3, ![1024, 18, 18]⟩
abbrev S1024x18x1 : Shape := ⟨3, ![1024, 18, 1]⟩
abbrev S1024x1x18 : Shape := ⟨3, ![1024, 1, 18]⟩

class Facts : Prop where
  shapeCasts_S1024x3x32x32_S1024x3072 : S1024x3x32x32.ShapeCasts S1024x3072
  reducesTo_S1024x3072_S1024_d1 : S1024x3072.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x3072_0_1 : S1024x1.BroadcastsInDim S1024x3072 (![0, 1] : Fin 2 → Fin S1024x3072.rank)
  slices_S3072x3072_S3072x30_0_0 : S3072x3072.Slices ![0, 0] S3072x30
  reducesTo_S50000x30_S50000_d1 : S50000x30.ReducesTo [1] S50000
  bcast_S50000_S50000x1_0 : S50000.BroadcastsInDim S50000x1 (![0] : Fin 1 → Fin S50000x1.rank)
  reducesTo_S1024x30_S1024_d1 : S1024x30.ReducesTo [1] S1024
  bcast_S1024_S1x1024_1 : S1024.BroadcastsInDim S1x1024 (![1] : Fin 1 → Fin S1x1024.rank)
  bcast_S50000x1_S50000x1024_0_1 : S50000x1.BroadcastsInDim S50000x1024 (![0, 1] : Fin 2 → Fin S50000x1024.rank)
  bcast_S1x1024_S50000x1024_0_1 : S1x1024.BroadcastsInDim S50000x1024 (![0, 1] : Fin 2 → Fin S50000x1024.rank)
  transposes_S1024x30_S30x1024_1_0 : S1024x30.Transposes [1, 0] S30x1024
  bcast_S_S50000x1024 : S_.BroadcastsInDim S50000x1024 (![] : Fin 0 → Fin S50000x1024.rank)
  transposes_S50000x1024_S1024x50000_1_0 : S50000x1024.Transposes [1, 0] S1024x50000
  sliceFits_S1024x50000_S1024x18 : S1024x50000.Slices (fun _ => 0) S1024x18
  bcast_S_S1024x18 : S_.BroadcastsInDim S1024x18 (![] : Fin 0 → Fin S1024x18.rank)
  bcast_S1024x18_S1024x18x1_0_1 : S1024x18.BroadcastsInDim S1024x18x1 (![0, 1] : Fin 2 → Fin S1024x18x1.rank)
  bcast_S1024x18_S1024x1x18_0_2 : S1024x18.BroadcastsInDim S1024x1x18 (![0, 2] : Fin 2 → Fin S1024x1x18.rank)
  bcast_S1024x18x1_S1024x18x18_0_1_2 : S1024x18x1.BroadcastsInDim S1024x18x18 (![0, 1, 2] : Fin 3 → Fin S1024x18x18.rank)
  bcast_S1024x1x18_S1024x18x18_0_1_2 : S1024x1x18.BroadcastsInDim S1024x18x18 (![0, 1, 2] : Fin 3 → Fin S1024x18x18.rank)
  reducesTo_S1024x18x18_S1024x18_d2 : S1024x18x18.ReducesTo [2] S1024x18
  reducesTo_S1024x18_S1024_d1 : S1024x18.ReducesTo [1] S1024
  bcast_S_S50000x30 : S_.BroadcastsInDim S50000x30 (![] : Fin 0 → Fin S50000x30.rank)
  bcast_S_S3072x3072 : S_.BroadcastsInDim S3072x3072 (![] : Fin 0 → Fin S3072x3072.rank)
  slices_S1024x18_S1024x1_0_13 : S1024x18.Slices ![0, 13] S1024x1
  shapeCasts_S1024x1_S1024 : S1024x1.ShapeCasts S1024
  slices_S1024x18_S1024x1_0_14 : S1024x18.Slices ![0, 14] S1024x1
  bcast_S_S1024 : S_.BroadcastsInDim S1024 (![] : Fin 0 → Fin S1024.rank)
  dot_S1024x3072_S3072x30_S1024x30_1_0_0_1_n_n_wf : DotDims.WF S1024x3072 S3072x30 S1024x30 [1] [0] [0] [1] [] []
  dot_S50000x30_S30x1024_S50000x1024_1_0_0_1_n_n_wf : DotDims.WF S50000x30 S30x1024 S50000x1024 [1] [0] [0] [1] [] []

variable [Facts]

def dot_S1024x3072_S3072x30_S1024x30_1_0_0_1_n_n : DotDims S1024x3072 S3072x30 S1024x30 where
  lhsContracting := [1]
  rhsContracting := [0]
  lhsNonContracting := [0]
  rhsNonContracting := [1]
  lhsBatch := []
  rhsBatch := []
  wf := dot_S1024x3072_S3072x30_S1024x30_1_0_0_1_n_n_wf
def dot_S50000x30_S30x1024_S50000x1024_1_0_0_1_n_n : DotDims S50000x30 S30x1024 S50000x1024 where
  lhsContracting := [1]
  rhsContracting := [0]
  lhsNonContracting := [0]
  rhsNonContracting := [1]
  lhsBatch := []
  rhsBatch := []
  wf := dot_S50000x30_S30x1024_S50000x1024_1_0_0_1_n_n_wf
def fn_norm {F : FTy → Type} [FloatOps F] (arg0 : FVec F S1024x3072 .f32) : FVec F S1024x1 .f32 :=
  let v0 : FVec F S1024x3072 .f32 := mulf arg0 arg0
  let cst : FVec F S_ .f32 := constant S_ .f32 0x00000000#32
  let v1 : FVec F S1024 .f32 := (fun x v => Host.reduceAdd x v reducesTo_S1024x3072_S1024_d1 h_S_) v0 cst
  let v2 : FVec F S1024x1 .f32 := broadcastInDim S1024x1 ![0] bcast_S1024_S1024x1_0 v1
  let v3 : FVec F S1024x1 .f32 := Host.sqrt v2
  v3

def fn_part3 {F : FTy → Type} [FloatOps F] (main_values : FVec F S1024x18 .f32) (main_v53 : FVec F S1024 .f32) (main_v56 : IVec S50000x30 1) (main_v57 : FVec F S3072x3072 .f32) (main_cst_9 : FVec F S_ .f32) : IVec S50000x30 1 × IVec S3072x3072 1 × IVec S1024 1 × IVec S1024 1 :=
  let main_v58 : FVec F S3072x3072 .f32 := broadcastInDim S3072x3072 ![] bcast_S_S3072x3072 main_cst_9
  let main_v59 : IVec S3072x3072 1 := cmpf .ole main_v57 main_v58
  let main_v60 : FVec F S1024x1 .f32 := (extractStridedSlice S1024x1 ![0, 13] · slices_S1024x18_S1024x1_0_13) main_values
  let main_v61 : FVec F S1024 .f32 := shapeCast S1024 main_v60 shapeCasts_S1024x1_S1024
  let main_v62 : FVec F S1024x1 .f32 := (extractStridedSlice S1024x1 ![0, 14] · slices_S1024x18_S1024x1_0_14) main_values
  let main_v63 : FVec F S1024 .f32 := shapeCast S1024 main_v62 shapeCasts_S1024x1_S1024
  let main_v64 : IVec S1024 1 := cmpf .ogt main_v61 main_v63
  let main_cst_10 : FVec F S_ .f32 := constant S_ .f32 0x40400000#32
  let main_v65 : FVec F S1024 .f32 := broadcastInDim S1024 ![] bcast_S_S1024 main_cst_10
  let main_v66 : IVec S1024 1 := cmpf .ole main_v53 main_v65
  (main_v56, main_v59, main_v64, main_v66)

def fn_part2 {F : FTy → Type} [FloatOps F] (main_arg1 : FVec F S3072x3072 .f32) (main_arg2 : FVec F S50000x30 .f32) (main_values : FVec F S1024x18 .f32) (main_v32 : IVec S1024x18 32) (main_v33 : IVec S1024x18x18 32) (main_v34 : IVec S1024x18x18 32) (main_v37 : FVec F S1024x18x18 .f32) (main_v38 : FVec F S1024x18x18 .f32) : IVec S50000x30 1 × IVec S3072x3072 1 × IVec S1024 1 × IVec S1024 1 :=
  let main_v39 : IVec S1024x18x18 1 := cmpf .oeq main_v37 main_v38
  let main_v40 : IVec S1024x18x1 32 := broadcastInDim S1024x18x1 ![0, 1] bcast_S1024x18_S1024x18x1_0_1 main_v32
  let main_v41 : IVec S1024x1x18 32 := broadcastInDim S1024x1x18 ![0, 2] bcast_S1024x18_S1024x1x18_0_2 main_v32
  let main_v42 : IVec S1024x18x18 32 := broadcastInDim S1024x18x18 ![0, 1, 2] bcast_S1024x18x1_S1024x18x18_0_1_2 main_v40
  let main_v43 : IVec S1024x18x18 32 := broadcastInDim S1024x18x18 ![0, 1, 2] bcast_S1024x1x18_S1024x18x18_0_1_2 main_v41
  let main_v44 : IVec S1024x18x18 1 := cmpi .eq main_v42 main_v43
  let main_v45 : IVec S1024x18x18 1 := ori main_v39 main_v44
  let main_v46 : IVec S1024x18x18 1 := cmpi .slt main_v34 main_v33
  let main_v47 : IVec S1024x18x18 1 := andi main_v45 main_v46
  let main_v48 : FVec F S1024x18x18 .f32 := uitofp .f32 main_v47
  let main_cst_5 : FVec F S_ .f32 := constant S_ .f32 0x00000000#32
  let main_v49 : FVec F S1024x18 .f32 := (fun x v => Host.reduceAdd x v reducesTo_S1024x18x18_S1024x18_d2 h_S_) main_v48 main_cst_5
  let main_cst_6 : FVec F S_ .f32 := constant S_ .f32 0x00000000#32
  let main_v50 : FVec F S1024x18 .f32 := broadcastInDim S1024x18 ![] bcast_S_S1024x18 main_cst_6
  let main_v51 : IVec S1024x18 1 := cmpf .ogt main_v49 main_v50
  let main_v52 : FVec F S1024x18 .f32 := uitofp .f32 main_v51
  let main_cst_7 : FVec F S_ .f32 := constant S_ .f32 0x00000000#32
  let main_v53 : FVec F S1024 .f32 := (fun x v => Host.reduceAdd x v reducesTo_S1024x18_S1024_d1 h_S_) main_v52 main_cst_7
  let main_v54 : FVec F S50000x30 .f32 := Host.absf main_arg2
  let main_cst_8 : FVec F S_ .f32 := constant S_ .f32 0x3F800000#32
  let main_v55 : FVec F S50000x30 .f32 := broadcastInDim S50000x30 ![] bcast_S_S50000x30 main_cst_8
  let main_v56 : IVec S50000x30 1 := cmpf .ole main_v54 main_v55
  let main_v57 : FVec F S3072x3072 .f32 := Host.absf main_arg1
  let main_cst_9 : FVec F S_ .f32 := constant S_ .f32 0x3E000000#32
  fn_part3 (F := F) main_values main_v53 main_v56 main_v57 main_cst_9

def fn_part1 {F : FTy → Type} [FloatOps F] (main_arg1 : FVec F S3072x3072 .f32) (main_arg2 : FVec F S50000x30 .f32) (main_v11 : FVec F S1024x30 .f32) (main_v18 : FVec F S50000x1024 .f32) (main_v19 : FVec F S50000x1024 .f32) : IVec S50000x30 1 × IVec S3072x3072 1 × IVec S1024 1 × IVec S1024 1 :=
  let main_v20 : FVec F S50000x1024 .f32 := addf main_v18 main_v19
  let main_v21 : FVec F S30x1024 .f32 := (transpose S30x1024 [1, 0] · transposes_S1024x30_S30x1024_1_0) main_v11
  let main_v22 : FVec F S50000x1024 .f32 := (fun l r => Host.dotGeneral dot_S50000x30_S30x1024_S50000x1024_1_0_0_1_n_n none l r) main_arg2 main_v21
  let main_cst_3 : FVec F S_ .f32 := constant S_ .f32 0x40000000#32
  let main_v23 : FVec F S50000x1024 .f32 := broadcastInDim S50000x1024 ![] bcast_S_S50000x1024 main_cst_3
  let main_v24 : FVec F S50000x1024 .f32 := mulf main_v23 main_v22
  let main_v25 : FVec F S50000x1024 .f32 := subf main_v20 main_v24
  let main_cst_4 : FVec F S_ .f32 := constant S_ .f32 0x2B8CBCCC#32
  let main_v26 : FVec F S50000x1024 .f32 := broadcastInDim S50000x1024 ![] bcast_S_S50000x1024 main_cst_4
  let main_v27 : FVec F S50000x1024 .f32 := maximumf main_v25 main_v26
  let main_v28 : FVec F S50000x1024 .f32 := Host.sqrt main_v27
  let main_v29 : FVec F S1024x50000 .f32 := (transpose S1024x50000 [1, 0] · transposes_S50000x1024_S1024x50000_1_0) main_v28
  let main_v30 : FVec F S1024x50000 .f32 := Host.negf main_v29
  let main_values : FVec F S1024x18 .f32 := (fun x => (Host.topK S1024x18 1 (FloatOps.cmpfTotal .gt) x sliceFits_S1024x50000_S1024x18).1) main_v30
  let main_indices : IVec S1024x18 32 := (fun x => (Host.topK S1024x18 1 (FloatOps.cmpfTotal .gt) x sliceFits_S1024x50000_S1024x18).2) main_v30
  let main_c : IVec S_ 32 := constantI S_ 32 1792#32
  let main_v31 : IVec S1024x18 32 := broadcastInDim S1024x18 ![] bcast_S_S1024x18 main_c
  let main_v32 : IVec S1024x18 32 := Host.remsi main_indices main_v31
  let main_v33 : IVec S1024x18x18 32 := iotaInDim S1024x18x18 32 1
  let main_v34 : IVec S1024x18x18 32 := iotaInDim S1024x18x18 32 2
  let main_v35 : FVec F S1024x18x1 .f32 := broadcastInDim S1024x18x1 ![0, 1] bcast_S1024x18_S1024x18x1_0_1 main_values
  let main_v36 : FVec F S1024x1x18 .f32 := broadcastInDim S1024x1x18 ![0, 2] bcast_S1024x18_S1024x1x18_0_2 main_values
  let main_v37 : FVec F S1024x18x18 .f32 := broadcastInDim S1024x18x18 ![0, 1, 2] bcast_S1024x18x1_S1024x18x18_0_1_2 main_v35
  let main_v38 : FVec F S1024x18x18 .f32 := broadcastInDim S1024x18x18 ![0, 1, 2] bcast_S1024x1x18_S1024x18x18_0_1_2 main_v36
  fn_part2 (F := F) main_arg1 main_arg2 main_values main_v32 main_v33 main_v34 main_v37 main_v38

def fn {F : FTy → Type} [FloatOps F] (main_arg0 : FVec F S1024x3x32x32 .f32) (main_arg1 : FVec F S3072x3072 .f32) (main_arg2 : FVec F S50000x30 .f32) (main_arg3 : FVec F S50000x10 .f32) : IVec S50000x30 1 × IVec S3072x3072 1 × IVec S1024 1 × IVec S1024 1 :=
  let main_v0 : FVec F S1024x3072 .f32 := shapeCast S1024x3072 main_arg0 shapeCasts_S1024x3x32x32_S1024x3072
  let main_cst : FVec F S_ .f32 := constant S_ .f32 0x00000000#32
  let main_v1 : FVec F S1024 .f32 := (fun x v => Host.reduceAdd x v reducesTo_S1024x3072_S1024_d1 h_S_) main_v0 main_cst
  let main_v2 : FVec F S1024x1 .f32 := broadcastInDim S1024x1 ![0] bcast_S1024_S1024x1_0 main_v1
  let main_cst_0 : FVec F S_ .f32 := constant S_ .f32 0x45400000#32
  let main_v3 : FVec F S1024x1 .f32 := broadcastInDim S1024x1 ![] bcast_S_S1024x1 main_cst_0
  let main_v4 : FVec F S1024x1 .f32 := Host.divf main_v2 main_v3
  let main_v5 : FVec F S1024x3072 .f32 := broadcastInDim S1024x3072 ![0, 1] bcast_S1024x1_S1024x3072_0_1 main_v4
  let main_v6 : FVec F S1024x3072 .f32 := subf main_v0 main_v5
  let main_v7 : FVec F S1024x1 .f32 := fn_norm (F := F) main_v6
  let main_v8 : FVec F S1024x3072 .f32 := broadcastInDim S1024x3072 ![0, 1] bcast_S1024x1_S1024x3072_0_1 main_v7
  let main_v9 : FVec F S1024x3072 .f32 := Host.divf main_v6 main_v8
  let main_v10 : FVec F S3072x30 .f32 := (extractStridedSlice S3072x30 ![0, 0] · slices_S3072x3072_S3072x30_0_0) main_arg1
  let main_v11 : FVec F S1024x30 .f32 := (fun l r => Host.dotGeneral dot_S1024x3072_S3072x30_S1024x30_1_0_0_1_n_n none l r) main_v9 main_v10
  let main_v12 : FVec F S50000x30 .f32 := mulf main_arg2 main_arg2
  let main_cst_1 : FVec F S_ .f32 := constant S_ .f32 0x00000000#32
  let main_v13 : FVec F S50000 .f32 := (fun x v => Host.reduceAdd x v reducesTo_S50000x30_S50000_d1 h_S_) main_v12 main_cst_1
  let main_v14 : FVec F S50000x1 .f32 := broadcastInDim S50000x1 ![0] bcast_S50000_S50000x1_0 main_v13
  let main_v15 : FVec F S1024x30 .f32 := mulf main_v11 main_v11
  let main_cst_2 : FVec F S_ .f32 := constant S_ .f32 0x00000000#32
  let main_v16 : FVec F S1024 .f32 := (fun x v => Host.reduceAdd x v reducesTo_S1024x30_S1024_d1 h_S_) main_v15 main_cst_2
  let main_v17 : FVec F S1x1024 .f32 := broadcastInDim S1x1024 ![1] bcast_S1024_S1x1024_1 main_v16
  let main_v18 : FVec F S50000x1024 .f32 := broadcastInDim S50000x1024 ![0, 1] bcast_S50000x1_S50000x1024_0_1 main_v14
  let main_v19 : FVec F S50000x1024 .f32 := broadcastInDim S50000x1024 ![0, 1] bcast_S1x1024_S50000x1024_0_1 main_v17
  fn_part1 (F := F) main_arg1 main_arg2 main_v11 main_v18 main_v19
-- ==== Kernel.lean ====
abbrev S1024x3x32x32 : Shape := ⟨4, ![1024, 3, 32, 32]⟩
abbrev S3072x3072 : Shape := ⟨2, ![3072, 3072]⟩
abbrev S50000x30 : Shape := ⟨2, ![50000, 30]⟩
abbrev S50000x10 : Shape := ⟨2, ![50000, 10]⟩
abbrev S1024x3072 : Shape := ⟨2, ![1024, 3072]⟩
abbrev S3072x30 : Shape := ⟨2, ![3072, 30]⟩
abbrev S_ : Shape := ⟨0, ![]⟩
abbrev S3072x32 : Shape := ⟨2, ![3072, 32]⟩
abbrev S176x30 : Shape := ⟨2, ![176, 30]⟩
abbrev S50176x30 : Shape := ⟨2, ![50176, 30]⟩
abbrev S30x50176 : Shape := ⟨2, ![30, 50176]⟩
abbrev S32x50176 : Shape := ⟨2, ![32, 50176]⟩
abbrev S50176x16 : Shape := ⟨2, ![50176, 16]⟩
abbrev S1024x32 : Shape := ⟨2, ![1024, 32]⟩
abbrev S1024 : Shape := ⟨1, ![1024]⟩
abbrev S1024x1 : Shape := ⟨2, ![1024, 1]⟩
abbrev S50176 : Shape := ⟨1, ![50176]⟩
abbrev S1x50176 : Shape := ⟨2, ![1, 50176]⟩
abbrev S1024x10 : Shape := ⟨2, ![1024, 10]⟩
abbrev S64x32 : Shape := ⟨2, ![64, 32]⟩
abbrev S64x10 : Shape := ⟨2, ![64, 10]⟩
abbrev S64x50176 : Shape := ⟨2, ![64, 50176]⟩
abbrev S64x1792 : Shape := ⟨2, ![64, 1792]⟩
abbrev S64x30 : Shape := ⟨2, ![64, 30]⟩
abbrev S64x1 : Shape := ⟨2, ![64, 1]⟩
abbrev S64 : Shape := ⟨1, ![64]⟩
abbrev S64x12544 : Shape := ⟨2, ![64, 12544]⟩
abbrev S64x8 : Shape := ⟨2, ![64, 8]⟩
abbrev S64x16 : Shape := ⟨2, ![64, 16]⟩
abbrev S12544x16 : Shape := ⟨2, ![12544, 16]⟩

abbrev nBuf : Space → Nat
  | .hbm => 23
  | .vmem => 14
  | .smem => 0
  | _ => 0

abbrev bufTy : (tb : Table) → Fin (tcTables nBuf tb) → BufTy
  | .hbm, ⟨0, _⟩ => ⟨S1024x3x32x32, .f32⟩
  | .hbm, ⟨1, _⟩ => ⟨S3072x3072, .f32⟩
  | .hbm, ⟨2, _⟩ => ⟨S50000x30, .f32⟩
  | .hbm, ⟨3, _⟩ => ⟨S50000x10, .f32⟩
  | .hbm, ⟨4, _⟩ => ⟨S1024x3072, .f32⟩
  | .hbm, ⟨5, _⟩ => ⟨S3072x30, .f32⟩
  | .hbm, ⟨6, _⟩ => ⟨S_, .i32⟩
  | .hbm, ⟨7, _⟩ => ⟨S_, .f32⟩
  | .hbm, ⟨8, _⟩ => ⟨S3072x32, .f32⟩
  | .hbm, ⟨9, _⟩ => ⟨S_, .f32⟩
  | .hbm, ⟨10, _⟩ => ⟨S176x30, .f32⟩
  | .hbm, ⟨11, _⟩ => ⟨S50176x30, .f32⟩
  | .hbm, ⟨12, _⟩ => ⟨S30x50176, .f32⟩
  | .hbm, ⟨13, _⟩ => ⟨S_, .i32⟩
  | .hbm, ⟨14, _⟩ => ⟨S_, .f32⟩
  | .hbm, ⟨15, _⟩ => ⟨S32x50176, .f32⟩
  | .hbm, ⟨16, _⟩ => ⟨S_, .i32⟩
  | .hbm, ⟨17, _⟩ => ⟨S_, .f32⟩
  | .hbm, ⟨18, _⟩ => ⟨S50176x16, .f32⟩
  | .hbm, ⟨19, _⟩ => ⟨S50176x16, .bf16⟩
  | .hbm, ⟨20, _⟩ => ⟨S1024x32, .f32⟩
  | .hbm, ⟨21, _⟩ => ⟨S32x50176, .f32⟩
  | .hbm, ⟨22, _⟩ => ⟨S1024x10, .f32⟩
  | .local _ .vmem, ⟨0, _⟩ => ⟨S1024x3072, .f32⟩
  | .local _ .vmem, ⟨1, _⟩ => ⟨S3072x32, .f32⟩
  | .local _ .vmem, ⟨2, _⟩ => ⟨S32x50176, .f32⟩
  | .local _ .vmem, ⟨3, _⟩ => ⟨S1024x32, .f32⟩
  | .local _ .vmem, ⟨4, _⟩ => ⟨S32x50176, .f32⟩
  | .local _ .vmem, ⟨5, _⟩ => ⟨S64x32, .f32⟩
  | .local _ .vmem, ⟨6, _⟩ => ⟨S64x32, .f32⟩
  | .local _ .vmem, ⟨7, _⟩ => ⟨S32x50176, .f32⟩
  | .local _ .vmem, ⟨8, _⟩ => ⟨S50176x16, .bf16⟩
  | .local _ .vmem, ⟨9, _⟩ => ⟨S64x10, .f32⟩
  | .local _ .vmem, ⟨10, _⟩ => ⟨S64x10, .f32⟩
  | .local _ .vmem, ⟨11, _⟩ => ⟨S64x50176, .f32⟩
  | .local _ .vmem, ⟨12, _⟩ => ⟨S64x50176, .f32⟩
  | .local _ .vmem, ⟨13, _⟩ => ⟨S64x1792, .f32⟩
  | _, _ => ⟨S1024x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := .none

abbrev stage0_0 : Fin 1 → Memref sig .tc .vmem S1024x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x50176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x50176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x50176 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S50176x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1024x3x32x32 : Shape := ⟨4, ![1024, 3, 32, 32]⟩
abbrev S3072x3072 : Shape := ⟨2, ![3072, 3072]⟩
abbrev S50000x30 : Shape := ⟨2, ![50000, 30]⟩
abbrev S50000x10 : Shape := ⟨2, ![50000, 10]⟩
abbrev S1024x3072 : Shape := ⟨2, ![1024, 3072]⟩
abbrev S_ : Shape := ⟨0, ![]⟩
abbrev S1024 : Shape := ⟨1, ![1024]⟩
abbrev S1024x1 : Shape := ⟨2, ![1024, 1]⟩
abbrev S3072x30 : Shape := ⟨2, ![3072, 30]⟩
abbrev S1024x30 : Shape := ⟨2, ![1024, 30]⟩
abbrev S50000 : Shape := ⟨1, ![50000]⟩
abbrev S50000x1 : Shape := ⟨2, ![50000, 1]⟩
abbrev S1x1024 : Shape := ⟨2, ![1, 1024]⟩
abbrev S50000x1024 : Shape := ⟨2, ![50000, 1024]⟩
abbrev S30x1024 : Shape := ⟨2, ![30, 1024]⟩
abbrev S1024x50000 : Shape := ⟨2, ![1024, 50000]⟩
abbrev S1024x15 : Shape := ⟨2, ![1024, 15]⟩
abbrev S1024x15x1 : Shape := ⟨3, ![1024, 15, 1]⟩
abbrev S1024x15x10 : Shape := ⟨3, ![1024, 15, 10]⟩
abbrev S1024x10 : Shape := ⟨2, ![1024, 10]⟩

abbrev nBuf : Space → Nat
  | .hbm => 65
  | .vmem => 0
  | .smem => 0
  | _ => 0

abbrev bufTy : (tb : Table) → Fin (tcTables nBuf tb) → BufTy
  | .hbm, ⟨0, _⟩ => ⟨S1024x3x32x32, .f32⟩
  | .hbm, ⟨1, _⟩ => ⟨S3072x3072, .f32⟩
  | .hbm, ⟨2, _⟩ => ⟨S50000x30, .f32⟩
  | .hbm, ⟨3, _⟩ => ⟨S50000x10, .f32⟩
  | .hbm, ⟨4, _⟩ => ⟨S1024x3072, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x3072, .f32⟩
  | .hbm, ⟨12, _⟩ => ⟨S1024x3072, .f32⟩
  | .hbm, ⟨13, _⟩ => ⟨S1024x3072, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S1024x3072, .f32⟩
  | .hbm, ⟨19, _⟩ => ⟨S1024x3072, .f32⟩
  | .hbm, ⟨20, _⟩ => ⟨S3072x30, .f32⟩
  | .hbm, ⟨21, _⟩ => ⟨S1024x30, .f32⟩
  | .hbm, ⟨22, _⟩ => ⟨S50000x30, .f32⟩
  | .hbm, ⟨23, _⟩ => ⟨S_, .f32⟩
  | .hbm, ⟨24, _⟩ => ⟨S50000, .f32⟩
  | .hbm, ⟨25, _⟩ => ⟨S50000x1, .f32⟩
  | .hbm, ⟨26, _⟩ => ⟨S1024x30, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S50000x1024, .f32⟩
  | .hbm, ⟨31, _⟩ => ⟨S50000x1024, .f32⟩
  | .hbm, ⟨32, _⟩ => ⟨S50000x1024, .f32⟩
  | .hbm, ⟨33, _⟩ => ⟨S30x1024, .f32⟩
  | .hbm, ⟨34, _⟩ => ⟨S50000x1024, .f32⟩
  | .hbm, ⟨35, _⟩ => ⟨S_, .f32⟩
  | .hbm, ⟨36, _⟩ => ⟨S50000x1024, .f32⟩
  | .hbm, ⟨37, _⟩ => ⟨S50000x1024, .f32⟩
  | .hbm, ⟨38, _⟩ => ⟨S50000x1024, .f32⟩
  | .hbm, ⟨39, _⟩ => ⟨S_, .f32⟩
  | .hbm, ⟨40, _⟩ => ⟨S50000x1024, .f32⟩
  | .hbm, ⟨41, _⟩ => ⟨S50000x1024, .f32⟩
  | .hbm, ⟨42, _⟩ => ⟨S50000x1024, .f32⟩
  | .hbm, ⟨43, _⟩ => ⟨S1024x50000, .f32⟩
  | .hbm, ⟨44, _⟩ => ⟨S1024x50000, .f32⟩
  | .hbm, ⟨45, _⟩ => ⟨S1024x15, .f32⟩
  | .hbm, ⟨46, _⟩ => ⟨S1024x15, .i32⟩
  | .hbm, ⟨47, _⟩ => ⟨S1024x15, .f32⟩
  | .hbm, ⟨48, _⟩ => ⟨S_, .i32⟩
  | .hbm, ⟨49, _⟩ => ⟨S1024x15, .i32⟩
  | .hbm, ⟨50, _⟩ => ⟨S1024x15, .i1⟩
  | .hbm, ⟨51, _⟩ => ⟨S_, .i32⟩
  | .hbm, ⟨52, _⟩ => ⟨S1024x15, .i32⟩
  | .hbm, ⟨53, _⟩ => ⟨S1024x15, .i32⟩
  | .hbm, ⟨54, _⟩ => ⟨S1024x15, .i32⟩
  | .hbm, ⟨55, _⟩ => ⟨S1024x15x1, .i32⟩
  | .hbm, ⟨56, _⟩ => ⟨S1024x15x10, .f32⟩
  | .hbm, ⟨57, _⟩ => ⟨S1024x15, .f32⟩
  | .hbm, ⟨58, _⟩ => ⟨S1024x15, .f32⟩
  | .hbm, ⟨59, _⟩ => ⟨S1024x15x1, .f32⟩
  | .hbm, ⟨60, _⟩ => ⟨S1024x15x10, .f32⟩
  | .hbm, ⟨61, _⟩ => ⟨S1024x15x10, .f32⟩
  | .hbm, ⟨62, _⟩ => ⟨S_, .f32⟩
  | .hbm, ⟨63, _⟩ => ⟨S1024x10, .f32⟩
  | .hbm, ⟨64, _⟩ => ⟨S1024x10, .f32⟩
  | _, _ => ⟨S1024x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_values : Ref sig .tc := ⟨.hbm, 45, rfl⟩
abbrev main_indices : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Proof.PreFacts.lean ====
/-
  The shape relations the precondition's operations take.
-/
module

public import proofs.«01_k».proof.Pre_nearest_apart

public section

open Idealize.ShloMosaic

namespace Cert.Pre_nearest_apart

/-- Every shape relation the precondition states holds. -/
instance holds : Facts where
  shapeCasts_S1024x3x32x32_S1024x3072 := by decide
  reducesTo_S1024x3072_S1024_d1 := by decide
  h_S_ := by decide
  bcast_S1024_S1024x1_0 := by decide
  bcast_S_S1024x1 := by decide
  bcast_S1024x1_S1024x3072_0_1 := by decide
  slices_S3072x3072_S3072x30_0_0 := by decide
  reducesTo_S50000x30_S50000_d1 := by decide
  bcast_S50000_S50000x1_0 := by decide
  reducesTo_S1024x30_S1024_d1 := by decide
  bcast_S1024_S1x1024_1 := by decide
  bcast_S50000x1_S50000x1024_0_1 := by decide
  bcast_S1x1024_S50000x1024_0_1 := by decide
  transposes_S1024x30_S30x1024_1_0 := by decide
  bcast_S_S50000x1024 := by decide
  transposes_S50000x1024_S1024x50000_1_0 := by decide
  sliceFits_S1024x50000_S1024x18 := by decide
  bcast_S_S1024x18 := by decide
  bcast_S1024x18_S1024x18x1_0_1 := by decide
  bcast_S1024x18_S1024x1x18_0_2 := by decide
  bcast_S1024x18x1_S1024x18x18_0_1_2 := by decide
  bcast_S1024x1x18_S1024x18x18_0_1_2 := by decide
  reducesTo_S1024x18x18_S1024x18_d2 := by decide
  reducesTo_S1024x18_S1024_d1 := by decide
  bcast_S_S50000x30 := by decide
  bcast_S_S3072x3072 := by decide
  slices_S1024x18_S1024x1_0_13 := by decide
  shapeCasts_S1024x1_S1024 := by decide
  slices_S1024x18_S1024x1_0_14 := by decide
  bcast_S_S1024 := by decide
  dot_S1024x3072_S3072x30_S1024x30_1_0_0_1_n_n_wf := by decide
  dot_S50000x30_S30x1024_S50000x1024_1_0_0_1_n_n_wf := by decide

end Cert.Pre_nearest_apart
-- ==== Proof.Query.lean ====
/-
  The problem's quantities over the extended reals, free of any program: the centred and scaled query, its projection,
  its distance to a row of the data.
-/
module

public import Idealize.ShloMosaic.PureOps.Ideal.Laws

public section

open Idealize.ShloMosaic

namespace Nearest

/-- A query less its mean. -/
@[expose] noncomputable def centred (x : Fin 3072 → EReal) (j : Fin 3072) : EReal :=
  x j - Ideal.div (∑ i, x i) (Ideal.ofBits .f32 1161822208#32)

/-- The centred query over its norm. -/
@[expose] noncomputable def scaled (x : Fin 3072 → EReal) (j : Fin 3072) : EReal :=
  Ideal.div (centred x j) (Ideal.sqrt (∑ i, centred x i * centred x i))

/-- The scaled query against one column of the projector. -/
@[expose] noncomputable def projected (x P : Fin 3072 → EReal) : EReal := ∑ j, scaled x j * P j

/-- The least squared distance allowed. -/
@[expose] noncomputable def floor2 : EReal := Ideal.ofBits .f32 730643660#32

/-- The distance of a row of the data and a projected query. -/
@[expose] noncomputable def distance (d p : Fin 30 → EReal) : EReal :=
  Ideal.sqrt (max ((∑ k, d k * d k) + (∑ k, p k * p k) - Ideal.ofBits .f32 1073741824#32 * ∑ k, d k * p k) floor2)

/-- The same with the factor −2 taken into the query. -/
@[expose] noncomputable def distanceK (d p : Fin 30 → EReal) : EReal :=
  Ideal.sqrt (max ((∑ k, d k * d k) + (∑ k, p k * p k) + ∑ k, Ideal.ofBits .f32 3221225472#32 * p k * d k) floor2)

end Nearest
-- ==== Proof.Prep.lean ====
/-
  The first kernel's two tables read at an index: the queries' with the constant and the norm in its last columns, the
  data's with its norms and zeros in its last rows.
-/
module

public import proofs.«01_k».proof.Proof.Query
public import proofs.«01_k».proof.Proof.Gen.KernelIdeal.Frame
public import Idealize.ShloMosaic.Lib.Pointwise
public import Idealize.ShloMosaic.Lib.ValueIdx

public section

open Idealize.ShloMosaic Cert.KernelIdeal Cert.KernelIdeal.Gen

namespace Nearest

/-- The queries, each centred. -/
@[expose] noncomputable def rowsCentred (x : FVec Ideal S1024x3072 .f32) : FVec Ideal S1024x3072 .f32 :=
  subf x (broadcastTo S1024x3072 (divf (shapeCast S1024x1 (multiReduction .add [1] S1024 x 0x00000000#32
    reduces_S1024x3072_S1024 (.inl rfl) rfl) shapeCasts_S1024_S1024x1) (broadcast S1024x1 (Scalar.ofBits .f32 0x45400000#32)))
    broadcasts_S1024x1_S1024x3072)

/-- The centred queries, each over its norm. -/
@[expose] noncomputable def rowsScaled (y : FVec Ideal S1024x3072 .f32) : FVec Ideal S1024x3072 .f32 :=
  divf y (broadcastTo S1024x3072 (sqrt (shapeCast S1024x1 (multiReduction .add [1] S1024 (mulf y y) 0x00000000#32
    reduces_S1024x3072_S1024 (.inl rfl) rfl) shapeCasts_S1024_S1024x1)) broadcasts_S1024x1_S1024x3072)

/-- Rows against the columns of the projector. -/
@[expose] noncomputable def rowsProjected (y : FVec Ideal S1024x3072 .f32) (p : FVec Ideal S3072x32 .f32) : FVec Ideal S1024x32 .f32 :=
  matmul dot_S1024x3072_S3072x32_S1024x32_1_0_0_1_n_n none y p (constant S1024x32 .f32 0x00000000#32)

/-- The projected rows times −2, the constant and the norm put in. -/
@[expose] noncomputable def withNorm (z : FVec Ideal S1024x32 .f32) : FVec Ideal S1024x32 .f32 :=
  select (cmpi .eq (iota .tc S1024x32 32 [1] iota_S1024x32_d1_w32) (broadcast S1024x32 30#32))
    (broadcast S1024x32 (Scalar.ofBits .f32 0x3F800000#32))
    (select (cmpi .eq (iota .tc S1024x32 32 [1] iota_S1024x32_d1_w32) (broadcast S1024x32 31#32))
      (broadcastTo S1024x32 (shapeCast S1024x1 (shapeCast S1024x1 (multiReduction .add [1] S1024 (mulf z z) 0x00000000#32
        reduces_S1024x32_S1024 (.inl rfl) rfl) shapeCasts_S1024_S1024x1) shapeCasts_S1024x1_S1024x1) broadcasts_S1024x1_S1024x32)
      (mulf (broadcast S1024x32 (Scalar.ofBits .f32 0xC0000000#32)) z))

/-- The data with its norms and the zeros put in. -/
@[expose] noncomputable def dataNorm (d : FVec Ideal S32x50176 .f32) : FVec Ideal S32x50176 .f32 :=
  select (cmpi .eq (iota .tc S32x50176 32 [0] iota_S32x50176_d0_w32) (broadcast S32x50176 30#32))
    (broadcastTo S32x50176 (shapeCast S1x50176 (shapeCast S1x50176 (multiReduction .add [0] S50176 (mulf d d) 0x00000000#32
        reduces_S32x50176_S50176 (.inl rfl) rfl) shapeCasts_S50176_S1x50176) shapeCasts_S1x50176_S1x50176) broadcasts_S1x50176_S32x50176)
    (select (cmpi .eq (iota .tc S32x50176 32 [0] iota_S32x50176_d0_w32) (broadcast S32x50176 31#32))
      (broadcast S32x50176 (Scalar.ofBits .f32 0x00000000#32)) d)

theorem zero_offset : (![0, 0] : Fin 2 → Nat) = fun _ => 0 := funext fun a => by fin_cases a <;> rfl

theorem out0_3_eq (x0 : FVec Ideal S1024x3072 .f32) (x1 : FVec Ideal S3072x32 .f32) (x2 : FVec Ideal S32x50176 .f32) :
    out0_3 (F := Ideal) x0 x1 x2 = withNorm (rowsProjected (rowsScaled (rowsCentred x0)) x1) := by
  unfold out0_3
  rw [View.canon_unit_zero zero_offset, View.ld_unit_zero zero_offset, View.ld_unit_zero zero_offset]
  unfold k0_pay2 withNorm rowsProjected rowsScaled rowsCentred
  simp only [shapeCast_self]

theorem out0_4_eq (x0 : FVec Ideal S1024x3072 .f32) (x1 : FVec Ideal S3072x32 .f32) (x2 : FVec Ideal S32x50176 .f32) :
    out0_4 (F := Ideal) x0 x1 x2 = dataNorm x2 := by
  unfold out0_4
  rw [View.canon_unit_zero zero_offset, View.ld_unit_zero zero_offset]
  unfold k0_pay1 k0_pay4 k0_pay3 k0_pay5 dataNorm
  simp only [shapeCast_self]

/-- A choice at one place of a line of thirty-two. -/
theorem select_place {α : Type} (k : Fin 32) (n : Nat) (hn : n < 2 ^ 32) (a b : α) :
    Scalar.select (IntOp.cmpi .eq (BitVec.ofNat 32 k.val) (BitVec.ofNat 32 n)) a b = if k.val = n then a else b := by
  have hk := k.isLt
  unfold Scalar.select IntOp.cmpi
  by_cases h : k.val = n
  · simp [h]
  · have h' : ¬ BitVec.ofNat 32 k.val = BitVec.ofNat 32 n := fun e => h (by
      have := congrArg BitVec.toNat e
      rwa [BitVec.toNat_ofNat, BitVec.toNat_ofNat, Nat.mod_eq_of_lt (by omega), Nat.mod_eq_of_lt hn] at this)
    have h2 : (BitVec.ofNat 32 k.val == BitVec.ofNat 32 n) = false := beq_eq_false_iff_ne.mpr h'
    simp only [h2, if_neg h]
    rfl

variable (x : FVec Ideal S1024x3072 .f32) (q : Fin 1024)

theorem rowsCentred_apply (j : Fin 3072) : rowsCentred x (ix2 q j) = centred (fun i => x (ix2 q i)) j := by
  unfold rowsCentred centred
  pointwise

theorem rowsScaled_apply (y : FVec Ideal S1024x3072 .f32) (j : Fin 3072) :
    rowsScaled y (ix2 q j) = Ideal.div (y (ix2 q j)) (Ideal.sqrt (∑ i : Fin 3072, y (ix2 q i) * y (ix2 q i))) := by
  unfold rowsScaled
  pointwise

theorem rowsProjected_apply (y : FVec Ideal S1024x3072 .f32) (p : FVec Ideal S3072x32 .f32) (k : Fin 32) :
    rowsProjected y p (ix2 q k) = ∑ j : Fin 3072, y (ix2 q j) * p (ix2 j k) := by
  unfold rowsProjected
  pointwise

theorem withNorm_apply (z : FVec Ideal S1024x32 .f32) (k : Fin 32) :
    withNorm z (ix2 q k) = if k.val = 30 then 1 else if k.val = 31 then
      ∑ i : Fin 32, z (ix2 q i) * z (ix2 q i) else Ideal.ofBits .f32 0xC0000000#32 * z (ix2 q k) := by
  unfold withNorm
  pointwise
  rw [select_place k 30 (by norm_num), select_place k 31 (by norm_num)]

theorem dataNorm_apply (d : FVec Ideal S32x50176 .f32) (k : Fin 32) (i : Fin 50176) :
    dataNorm d (ix2 k i) = if k.val = 30 then ∑ r : Fin 32, d (ix2 r i) * d (ix2 r i) else if k.val = 31 then 0 else d (ix2 k i) := by
  unfold dataNorm
  pointwise
  rw [select_place k 30 (by norm_num), select_place k 31 (by norm_num)]

end Nearest
-- ==== Proof.Entry.lean ====
/-
  The arrays the first kernel is entered with, as the host's operations on the arguments, and read at an index.
-/
module

public import proofs.«01_k».proof.Proof.Prep

public section

open Idealize.ShloMosaic Idealize.ShloMosaic.TcCoe Cert.KernelIdeal Cert.KernelIdeal.Gen

namespace Nearest

/-- The host's zero, which pads. -/
@[expose] noncomputable def hostZero : FVec Ideal S_ .f32 := sitofp .f32 (constantI S_ 32 0#32)

/-- The queries as rows. -/
@[expose] noncomputable def queriesIn (a : FVec Ideal S1024x3x32x32 .f32) : FVec Ideal S1024x3072 .f32 :=
  shapeCast S1024x3072 a shapeCasts_S1024x3x32x32_S1024x3072

/-- Thirty columns of the projector, padded. -/
@[expose] noncomputable def projectorIn (a : FVec Ideal S3072x3072 .f32) : FVec Ideal S3072x32 .f32 :=
  pad S3072x32 ![0, 0] ![0, 2] ![0, 0] (extractStridedSlice S3072x30 ![0, 0] a slices_S3072x3072_S3072x30_0_0) hostZero
    pads_S3072x30_S3072x32_000_020 h_S_

/-- The data and the rows far away, as columns, padded. -/
@[expose] noncomputable def dataIn (a : FVec Ideal S50000x30 .f32) : FVec Ideal S32x50176 .f32 :=
  pad S32x50176 ![0, 0] ![2, 0] ![0, 0] (transpose S30x50176 [1, 0] (concatenate S50176x30 0 [⟨S50000x30, a⟩,
    ⟨S176x30, broadcastInDim S176x30 ![] bcast_S_S176x30 (constant S_ .f32 0x447A0000#32)⟩]
    concatenates_S50000x30_S176x30_S50176x30_d0) transposes_S50176x30_S30x50176_1_0) hostZero
    pads_S30x50176_S32x50176_020_000 h_S_

/-- The labels, padded. -/
@[expose] noncomputable def labelsIn (a : FVec Ideal S50000x10 .f32) : FVec Ideal S50176x16 .bf16 :=
  truncf .bf16 (pad S50176x16 ![0, 0] ![176, 6] ![0, 0] a hostZero pads_S50000x10_S50176x16_01760_060 h_S_) bitsLt_bf16_f32

variable (m : (ℓ : Loc nD τ sig) → Buf (Elt Ideal) ℓ) (ρ : Dev nD → PrngReg) (c : Dev nD)

theorem W1_v0 (X : Valuation τ sig (Elt Ideal)) : StableHlo.after hostOps0 X (Proc.devRef .tc main_v0) = queriesIn (X (Proc.devRef .tc main_arg0)) := by
  after_results
  rfl
theorem W1_v1 (X : Valuation τ sig (Elt Ideal)) : StableHlo.after hostOps0 X (Proc.devRef .tc main_v1)
    = extractStridedSlice S3072x30 ![0, 0] (X (Proc.devRef .tc main_arg1) : FVec Ideal S3072x3072 .f32) slices_S3072x3072_S3072x30_0_0 := by
  after_results
theorem W1_c (X : Valuation τ sig (Elt Ideal)) : StableHlo.after hostOps0 X (Proc.devRef .tc main_c) = constantI S_ 32 0#32 := by
  after_results
theorem W2_v2 (X : Valuation τ sig (Elt Ideal)) : StableHlo.after hostOps0_1 X (Proc.devRef .tc main_v2)
    = pad S3072x32 ![0, 0] ![0, 2] ![0, 0] (X (Proc.devRef .tc main_v1) : FVec Ideal S3072x30 .f32)
      (sitofp (F := Ideal) .f32 (X (Proc.devRef .tc main_c) : IVec S_ 32)) pads_S3072x30_S3072x32_000_020 h_S_ := by
  after_results
  rfl
theorem W3_v5 (X : Valuation τ sig (Elt Ideal)) : StableHlo.after hostOps0_2 X (Proc.devRef .tc main_v5)
    = transpose S30x50176 [1, 0] (concatenate S50176x30 0 [⟨S50000x30, (X (Proc.devRef .tc main_arg2) : FVec Ideal S50000x30 .f32)⟩,
    ⟨S176x30, broadcastInDim S176x30 ![] bcast_S_S176x30 (constant (F := Ideal) S_ .f32 0x447A0000#32)⟩]
    concatenates_S50000x30_S176x30_S50176x30_d0) transposes_S50176x30_S30x50176_1_0 := by
  after_results
theorem W3_c0 (X : Valuation τ sig (Elt Ideal)) : StableHlo.after hostOps0_2 X (Proc.devRef .tc main_c_0) = constantI S_ 32 0#32 := by
  after_results
theorem W4_v6 (X : Valuation τ sig (Elt Ideal)) : StableHlo.after hostOps0_3 X (Proc.devRef .tc main_v6)
    = pad S32x50176 ![0, 0] ![2, 0] ![0, 0] (X (Proc.devRef .tc main_v5) : FVec Ideal S30x50176 .f32)
      (sitofp (F := Ideal) .f32 (X (Proc.devRef .tc main_c_0) : IVec S_ 32)) pads_S30x50176_S32x50176_020_000 h_S_ := by
  after_results
  rfl
theorem W5_c1 (X : Valuation τ sig (Elt Ideal)) : StableHlo.after hostOps0_4 X (Proc.devRef .tc main_c_1) = constantI S_ 32 0#32 := by
  after_results
theorem W6_v7 (X : Valuation τ sig (Elt Ideal)) : StableHlo.after hostOps0_5 X (Proc.devRef .tc main_v7)
    = pad S50176x16 ![0, 0] ![176, 6] ![0, 0] (X (Proc.devRef .tc main_arg3) : FVec Ideal S50000x10 .f32)
      (sitofp (F := Ideal) .f32 (X (Proc.devRef .tc main_c_1) : IVec S_ 32)) pads_S50000x10_S50176x16_01760_060 h_S_ := by
  after_results
  rfl
theorem W7_v8 (X : Valuation τ sig (Elt Ideal)) : StableHlo.after hostOps0_6 X (Proc.devRef .tc main_v8)
    = (truncf (F := Ideal) (s := S50176x16) (φ := .f32) .bf16 (X (Proc.devRef .tc main_v7)) bitsLt_bf16_f32 : FVec Ideal S50176x16 .bf16) := by
  after_results

theorem entry_queries : W7 m ρ c (Proc.devRef .tc main_v0) = queriesIn (m ((c : Thread nD τ).loc main_arg0)) := by
  rw [W7_of m ρ c main_v0 (by decide), W6_of m ρ c main_v0 (by decide), W5_of m ρ c main_v0 (by decide),
    W4_of m ρ c main_v0 (by decide), W3_of m ρ c main_v0 (by decide), W2_of m ρ c main_v0 (by decide)]
  exact W1_v0 _

theorem entry_projector : W7 m ρ c (Proc.devRef .tc main_v2) = projectorIn (m ((c : Thread nD τ).loc main_arg1)) := by
  rw [W7_of m ρ c main_v2 (by decide), W6_of m ρ c main_v2 (by decide), W5_of m ρ c main_v2 (by decide),
    W4_of m ρ c main_v2 (by decide), W3_of m ρ c main_v2 (by decide)]
  refine (W2_v2 _).trans ?_
  have h1 : W1 m ρ c (Proc.devRef .tc main_v1) = _ := W1_v1 _
  have h2 : W1 m ρ c (Proc.devRef .tc main_c) = _ := W1_c _
  rw [h1, h2]
  rfl

theorem entry_data : W7 m ρ c (Proc.devRef .tc main_v6) = dataIn (m ((c : Thread nD τ).loc main_arg2)) := by
  rw [W7_of m ρ c main_v6 (by decide), W6_of m ρ c main_v6 (by decide), W5_of m ρ c main_v6 (by decide)]
  refine (W4_v6 _).trans ?_
  have h1 : W3 m ρ c (Proc.devRef .tc main_v5) = _ := W3_v5 _
  have h2 : W3 m ρ c (Proc.devRef .tc main_c_0) = _ := W3_c0 _
  rw [h1, h2, W2_of m ρ c main_arg2 (by decide), W1_of m ρ c main_arg2 (by decide)]
  rfl

theorem entry_labels : W7 m ρ c (Proc.devRef .tc main_v8) = labelsIn (m ((c : Thread nD τ).loc main_arg3)) := by
  refine (W7_v8 _).trans ?_
  have h1 : W6 m ρ c (Proc.devRef .tc main_v7) = _ := W6_v7 _
  have h2 : W5 m ρ c (Proc.devRef .tc main_c_1) = _ := W5_c1 _
  rw [h1, h2, W5_of m ρ c main_arg3 (by decide), W4_of m ρ c main_arg3 (by decide), W3_of m ρ c main_arg3 (by decide),
    W2_of m ρ c main_arg3 (by decide), W1_of m ρ c main_arg3 (by decide)]
  rfl

theorem sitofp_zero : (FloatOps.sitofp .f32 (0#32 : BitVec 32) : Ideal .f32) = 0 := by
  show ((((0#32 : BitVec 32).toInt : ℤ) : ℝ) : EReal) = 0
  rw [show (0#32 : BitVec 32).toInt = 0 from rfl, Int.cast_zero, EReal.coe_zero]

theorem projectorIn_apply (a : FVec Ideal S3072x3072 .f32) (j : Fin 3072) (k : Fin 32) :
    projectorIn a (ix2 j k) = if h : k.val < 30 then a (ix2 j ⟨k.val, by omega⟩) else 0 := by
  unfold projectorIn hostZero
  pointwise
  rw [sitofp_zero]

theorem dataIn_apply (a : FVec Ideal S50000x30 .f32) (k : Fin 32) (i : Fin 50176) :
    dataIn a (ix2 k i) = if h : k.val < 30 then (if h' : i.val < 50000 then a (ix2 ⟨i.val, h'⟩ ⟨k.val, h⟩)
      else Ideal.ofBits .f32 0x447A0000#32) else 0 := by
  unfold dataIn hostZero
  pointwise
  rw [sitofp_zero]

theorem labelsIn_apply (a : FVec Ideal S50000x10 .f32) (i : Fin 50176) (l : Fin 16) :
    labelsIn a (ix2 i l) = if h : i.val < 50000 ∧ l.val < 10 then a (ix2 ⟨i.val, h.1⟩ ⟨l.val, h.2⟩) else 0 := by
  unfold labelsIn hostZero
  pointwise
  rw [sitofp_zero]

end Nearest
-- ==== Proof.Steps.lean ====
/-
  The second kernel body's long chains of operations, named: each run value of the body is one of a handful of steps
  applied over and over. Every statement here holds by definition.
-/
module

public import proofs.«01_k».proof.Proof.Gen.KernelIdeal.Frame

public section

open Idealize.ShloMosaic Cert.KernelIdeal Cert.KernelIdeal.Gen

namespace Nearest

variable {F : FTy → Type} [FloatOps F]

/-- The constant −∞, as the body computes it. -/
@[expose] noncomputable def low : F .f32 := Scalar.subf (Scalar.ofBits .f32 0x00000000#32) (Scalar.ofBits .f32 0x7F800000#32)

/-- The constant +∞. -/
@[expose] noncomputable def high : F .f32 := Scalar.ofBits .f32 0x7F800000#32

/-- One climb: each row's least group minimum above `m`. -/
@[expose] noncomputable def climb (g : FVec F S64x1792 .f32) (m : FVec F S64x1 .f32) : FVec F S64x1 .f32 :=
  shapeCast S64x1 (multiReduction .minimumf [1] S64
    (select (cmpf .ogt g (broadcastTo S64x1792 m broadcasts_S64x1_S64x1792)) g (broadcast S64x1792 high))
    0x7F800000#32 reduces_S64x1792_S64 (.inl rfl) rfl) shapeCasts_S64_S64x1

/-- A chunk of distances with those above the threshold sunk to −∞. -/
@[expose] noncomputable def keep (t : FVec F S64x1 .f32) (v : FVec F S64x12544 .f32) : FVec F S64x12544 .f32 :=
  select (cmpf .ole v (broadcastTo S64x12544 t broadcasts_S64x1_S64x12544)) v (broadcast S64x12544 low)

/-- Each row's greatest value of a chunk below the bound. -/
@[expose] noncomputable def fallBelow (v b : FVec F S64x12544 .f32) : FVec F S64x1 .f32 :=
  shapeCast S64x1 (multiReduction .maximumf [1] S64
    (select (cmpf .olt v b) v (broadcast S64x12544 low))
    0xFF800000#32 reduces_S64x12544_S64 (.inl rfl) rfl) shapeCasts_S64_S64x1

/-- The same over eight lanes. -/
@[expose] noncomputable def fallBelow8 (v b : FVec F S64x8 .f32) : FVec F S64x1 .f32 :=
  shapeCast S64x1 (multiReduction .maximumf [1] S64
    (select (cmpf .olt v b) v (broadcast S64x8 low))
    0xFF800000#32 reduces_S64x8_S64 (.inl rfl) rfl) shapeCasts_S64_S64x1

/-- The `k`-th stop of a chunk's descent. -/
@[expose] noncomputable def fall (v : FVec F S64x12544 .f32) : Nat → FVec F S64x1 .f32
  | 0 => fallBelow v (broadcast S64x12544 high)
  | k + 1 => fallBelow v (broadcastTo S64x12544 (fall v k) broadcasts_S64x1_S64x12544)

/-- The `k`-th stop of eight lanes' descent. -/
@[expose] noncomputable def fall8 (u : FVec F S64x8 .f32) : Nat → FVec F S64x1 .f32
  | 0 => fallBelow8 u (broadcast S64x8 high)
  | k + 1 => fallBelow8 u (broadcastTo S64x8 (fall8 u k) broadcasts_S64x1_S64x8)

/-- Eight columns side by side. -/
@[expose] noncomputable def join (a b : Nat → FVec F S64x1 .f32) : FVec F S64x8 .f32 :=
  concatenate S64x8 1 [⟨S64x1, a 0⟩, ⟨S64x1, a 1⟩, ⟨S64x1, a 2⟩, ⟨S64x1, a 3⟩, ⟨S64x1, b 0⟩, ⟨S64x1, b 1⟩, ⟨S64x1, b 2⟩,
    ⟨S64x1, b 3⟩] concatenates_S64x1_S64x1_S64x1_S64x1_S64x1_S64x1_S64x1_S64x1_S64x8_d1

/-- How many of a chunk's distances lie below `t`, row by row, as a float. -/
@[expose] noncomputable def count (v : FVec F S64x12544 .f32) (t : FVec F S64x1 .f32) : FVec F S64x1 .f32 :=
  shapeCast S64x1 (multiReduction .add [1] S64
    (select (cmpf .olt v (broadcastTo S64x12544 t broadcasts_S64x1_S64x12544))
      (broadcast S64x12544 (Scalar.ofBits .f32 0x3F800000#32)) (broadcast S64x12544 (Scalar.ofBits .f32 0x00000000#32)))
    0x00000000#32 reduces_S64x12544_S64 (.inl rfl) rfl) shapeCasts_S64_S64x1

/-- The count over the four chunks, from zero. -/
@[expose] noncomputable def countAll (v0 v1 v2 v3 : FVec F S64x12544 .f32) (t : FVec F S64x1 .f32) : FVec F S64x1 .f32 :=
  addf (addf (addf (addf (broadcast S64x1 (Scalar.ofBits .f32 0x00000000#32)) (count v0 t)) (count v1 t)) (count v2 t))
    (count v3 t)

/-- `t` where the count is below fifteen, else `e`. -/
@[expose] noncomputable def ifFew (n t e : FVec F S64x1 .f32) : FVec F S64x1 .f32 :=
  select (cmpf .olt n (broadcast S64x1 (Scalar.ofBits .f32 0x41700000#32))) t e

/-- A chunk's row numbers as floats, from `k`. -/
@[expose] noncomputable def places (k : BitVec 32) : FVec F S64x12544 .f32 :=
  addf (sitofp .f32 (iota .tc S64x12544 32 [1] iota_S64x12544_d1_w32)) (broadcast S64x12544 (Scalar.ofBits .f32 k))

/-- The first place of a chunk at which the distance is `t`. -/
@[expose] noncomputable def firstIn (v : FVec F S64x12544 .f32) (k : BitVec 32) (t : FVec F S64x1 .f32) : FVec F S64x1 .f32 :=
  shapeCast S64x1 (multiReduction .minimumf [1] S64
    (select (cmpf .oeq v (broadcastTo S64x12544 t broadcasts_S64x1_S64x12544)) (places k) (broadcast S64x12544 high))
    0x7F800000#32 reduces_S64x12544_S64 (.inl rfl) rfl) shapeCasts_S64_S64x1

/-- The first place over the four chunks. -/
@[expose] noncomputable def firstAll (v0 v1 v2 v3 : FVec F S64x12544 .f32) (t : FVec F S64x1 .f32) : FVec F S64x1 .f32 :=
  minimumf (minimumf (minimumf (minimumf (broadcast S64x1 high) (firstIn v0 0x00000000#32 t))
    (firstIn v1 0x46440000#32 t)) (firstIn v2 0x46C40000#32 t)) (firstIn v3 0x47130000#32 t)

/-- The mask of the selected rows of a chunk. -/
@[expose] noncomputable def pick (v : FVec F S64x12544 .f32) (k : BitVec 32) (t e : FVec F S64x1 .f32) : IVec S64x12544 1 :=
  ori (cmpf .olt v (broadcastTo S64x12544 t broadcasts_S64x1_S64x12544))
    (andi (cmpf .oeq v (broadcastTo S64x12544 t broadcasts_S64x1_S64x12544))
      (cmpf .ole (places k) (broadcastTo S64x12544 e broadcasts_S64x1_S64x12544)))

/-- The selected rows' weights of a chunk times their labels. -/
@[expose] noncomputable def weigh (v : FVec F S64x12544 .f32) (k : BitVec 32) (t e : FVec F S64x1 .f32) (lab : FVec F S12544x16 .bf16) :
    FVec F S64x16 .f32 :=
  matmul dot_S64x12544_S12544x16_S64x16_1_0_0_1_n_n none
    (truncf .bf16 (select (pick v k t e)
      (exp (subf (broadcast S64x12544 (Scalar.ofBits .f32 0x00000000#32)) v))
      (broadcast S64x12544 (Scalar.ofBits .f32 0x00000000#32))) bitsLt_bf16_f32)
    (shapeCast S12544x16 lab shapeCasts_S12544x16_S12544x16) (constant S64x16 .f32 0x00000000#32)

/-- The four weighted sums added up from zero, the first ten columns, their logarithm. -/
@[expose] noncomputable def finish (v0 v1 v2 v3 : FVec F S64x12544 .f32) (t e : FVec F S64x1 .f32)
    (l0 l1 l2 l3 : FVec F S12544x16 .bf16) : FVec F S64x10 .f32 :=
  log (extractStridedSlice S64x10 ![0, 0]
    (addf (addf (addf (addf (broadcast S64x16 (Scalar.ofBits .f32 0x00000000#32)) (weigh v0 0x00000000#32 t e l0))
      (weigh v1 0x46440000#32 t e l1)) (weigh v2 0x46C40000#32 t e l2)) (weigh v3 0x47130000#32 t e l3))
    slices_S64x16_o0_0_S64x10)

/-- The bound among the four last stops. -/
@[expose] noncomputable def chosen (v0 v1 v2 v3 : FVec F S64x12544 .f32) (t : Nat → FVec F S64x1 .f32) : FVec F S64x1 .f32 :=
  ifFew (countAll v0 v1 v2 v3 (t 0)) (t 0) (ifFew (countAll v0 v1 v2 v3 (t 1)) (t 1)
    (ifFew (countAll v0 v1 v2 v3 (t 2)) (t 2) (t 3)))

variable (c : Dev nD) (arg1 : Memref sig .tc .vmem S64x32 .f32) (harg1 : arg1.IsWhole)
  (arg2 : Memref sig .tc .vmem S32x50176 .f32) (harg2 : arg2.IsWhole)
  (arg5 arg6 : Memref sig .tc .vmem S64x50176 .f32) (arg7 : Memref sig .tc .vmem S64x1792 .f32)
  (x0 : Vec F S64x32 .f32) (x1 : Vec F S32x50176 .f32)

/-- The threshold: fifteen climbs. -/
theorem run_tau : kernelRun1_A.sl.r_15 c arg1 harg1 arg2 harg2 arg5 arg6 arg7 x0 x1
    = (climb (kernelRun1_A.sl.v304 c arg1 harg1 arg2 harg2 arg5 arg6 arg7 x0 x1))^[15] (broadcast S64x1 low) := rfl

/-- The stops after the first chunk. -/
@[expose] noncomputable def stops1 (t : FVec F S64x1 .f32) (v0 : FVec F S64x12544 .f32) : Nat → FVec F S64x1 .f32 :=
  fall8 (join (fun _ => broadcast S64x1 low) (fall (keep t v0)))

/-- The stops after a further chunk. -/
@[expose] noncomputable def stopsNext (t : FVec F S64x1 .f32) (s : Nat → FVec F S64x1 .f32) (v : FVec F S64x12544 .f32) : Nat → FVec F S64x1 .f32 :=
  fall8 (join s (fall (keep t v)))

/-- The distances of chunk 0, as the run reads them. -/
noncomputable abbrev chunk0 : FVec F S64x12544 .f32 := kernelRun1_A.sl.v426 c arg1 harg1 arg2 harg2 arg5 arg6 x0 x1

/-- The distances of chunk 1, as the run reads them. -/
noncomputable abbrev chunk1 : FVec F S64x12544 .f32 := kernelRun1_A.sl.v489 c arg1 harg1 arg2 harg2 arg5 arg6 x0 x1

/-- The distances of chunk 2, as the run reads them. -/
noncomputable abbrev chunk2 : FVec F S64x12544 .f32 := kernelRun1_A.sl.v552 c arg1 harg1 arg2 harg2 arg5 arg6 x0 x1

/-- The distances of chunk 3, as the run reads them. -/
noncomputable abbrev chunk3 : FVec F S64x12544 .f32 := kernelRun1_A.sl.v615 c arg1 harg1 arg2 harg2 arg5 arg6 x0 x1

/-- The threshold of the run. -/
noncomputable abbrev tau : FVec F S64x1 .f32 := kernelRun1_A.sl.r_15 c arg1 harg1 arg2 harg2 arg5 arg6 arg7 x0 x1

/-- The stops of the run after the second chunk. -/
@[expose] noncomputable def stopsB : Nat → FVec F S64x1 .f32 :=
  stopsNext (tau c arg1 harg1 arg2 harg2 arg5 arg6 arg7 x0 x1) (stops1 (tau c arg1 harg1 arg2 harg2 arg5 arg6 arg7 x0 x1) (chunk0 c arg1 harg1 arg2 harg2 arg5 arg6 x0 x1)) (chunk1 c arg1 harg1 arg2 harg2 arg5 arg6 x0 x1)

/-- The stops of the run after the third chunk. -/
@[expose] noncomputable def stopsC : Nat → FVec F S64x1 .f32 := stopsNext (tau c arg1 harg1 arg2 harg2 arg5 arg6 arg7 x0 x1) (stopsB c arg1 harg1 arg2 harg2 arg5 arg6 arg7 x0 x1) (chunk2 c arg1 harg1 arg2 harg2 arg5 arg6 x0 x1)

/-- The stops of the run after the last chunk. -/
@[expose] noncomputable def stopsD : Nat → FVec F S64x1 .f32 := stopsNext (tau c arg1 harg1 arg2 harg2 arg5 arg6 arg7 x0 x1) (stopsC c arg1 harg1 arg2 harg2 arg5 arg6 arg7 x0 x1) (chunk3 c arg1 harg1 arg2 harg2 arg5 arg6 x0 x1)

theorem run_stopA_0 : kernelRun1_A.sl.r_19 c arg1 harg1 arg2 harg2 arg5 arg6 arg7 x0 x1 = stops1 (tau c arg1 harg1 arg2 harg2 arg5 arg6 arg7 x0 x1) (chunk0 c arg1 harg1 arg2 harg2 arg5 arg6 x0 x1) 0 := rfl
theorem run_stopA_1 : kernelRun1_A.sl.r_20 c arg1 harg1 arg2 harg2 arg5 arg6 arg7 x0 x1 = stops1 (tau c arg1 harg1 arg2 harg2 arg5 arg6 arg7 x0 x1) (chunk0 c arg1 harg1 arg2 harg2 arg5 arg6 x0 x1) 1 := rfl
theorem run_stopA_2 : kernelRun1_A.sl.r_22 c arg1 harg1 arg2 harg2 arg5 arg6 arg7 x0 x1 = stops1 (tau c arg1 harg1 arg2 harg2 arg5 arg6 arg7 x0 x1) (chunk0 c arg1 harg1 arg2 harg2 arg5 arg6 x0 x1) 2 := rfl
theorem run_stopA_3 : kernelRun1_A.sl.r_23 c arg1 harg1 arg2 harg2 arg5 arg6 arg7 x0 x1 = stops1 (tau c arg1 harg1 arg2 harg2 arg5 arg6 arg7 x0 x1) (chunk0 c arg1 harg1 arg2 harg2 arg5 arg6 x0 x1) 3 := rfl
theorem run_stopB_0 : kernelRun1_A.sl.r_29 c arg1 harg1 arg2 harg2 arg5 arg6 arg7 x0 x1 = stopsB c arg1 harg1 arg2 harg2 arg5 arg6 arg7 x0 x1 0 := rfl
theorem run_stopB_1 : kernelRun1_A.sl.r_30 c arg1 harg1 arg2 harg2 arg5 arg6 arg7 x0 x1 = stopsB c arg1 harg1 arg2 harg2 arg5 arg6 arg7 x0 x1 1 := rfl
theorem run_stopB_2 : kernelRun1_A.sl.r_31 c arg1 harg1 arg2 harg2 arg5 arg6 arg7 x0 x1 = stopsB c arg1 harg1 arg2 harg2 arg5 arg6 arg7 x0 x1 2 := rfl
theorem run_stopB_3 : kernelRun1_A.sl.r_32 c arg1 harg1 arg2 harg2 arg5 arg6 arg7 x0 x1 = stopsB c arg1 harg1 arg2 harg2 arg5 arg6 arg7 x0 x1 3 := rfl
theorem run_stopC_0 : kernelRun1_A.sl.r_35 c arg1 harg1 arg2 harg2 arg5 arg6 arg7 x0 x1 = stopsC c arg1 harg1 arg2 harg2 arg5 arg6 arg7 x0 x1 0 := rfl
theorem run_stopC_1 : kernelRun1_A.sl.r_37 c arg1 harg1 arg2 harg2 arg5 arg6 arg7 x0 x1 = stopsC c arg1 harg1 arg2 harg2 arg5 arg6 arg7 x0 x1 1 := rfl
theorem run_stopC_2 : kernelRun1_A.sl.r_38 c arg1 harg1 arg2 harg2 arg5 arg6 arg7 x0 x1 = stopsC c arg1 harg1 arg2 harg2 arg5 arg6 arg7 x0 x1 2 := rfl
theorem run_stopC_3 : kernelRun1_A.sl.r_39 c arg1 harg1 arg2 harg2 arg5 arg6 arg7 x0 x1 = stopsC c arg1 harg1 arg2 harg2 arg5 arg6 arg7 x0 x1 3 := rfl
theorem run_stopD_0 : kernelRun1_A.sl.r_44 c arg1 harg1 arg2 harg2 arg5 arg6 arg7 x0 x1 = stopsD c arg1 harg1 arg2 harg2 arg5 arg6 arg7 x0 x1 0 := rfl
theorem run_stopD_1 : kernelRun1_A.sl.r_45 c arg1 harg1 arg2 harg2 arg5 arg6 arg7 x0 x1 = stopsD c arg1 harg1 arg2 harg2 arg5 arg6 arg7 x0 x1 1 := rfl
theorem run_stopD_2 : kernelRun1_A.sl.r_46 c arg1 harg1 arg2 harg2 arg5 arg6 arg7 x0 x1 = stopsD c arg1 harg1 arg2 harg2 arg5 arg6 arg7 x0 x1 2 := rfl
theorem run_stopD_3 : kernelRun1_A.sl.r_47 c arg1 harg1 arg2 harg2 arg5 arg6 arg7 x0 x1 = stopsD c arg1 harg1 arg2 harg2 arg5 arg6 arg7 x0 x1 3 := rfl

/-- The bound of the run. -/
theorem run_bound : kernelRun1_A.sl.r_56 c arg1 harg1 arg2 harg2 arg5 arg6 arg7 x0 x1
    = chosen (chunk0 c arg1 harg1 arg2 harg2 arg5 arg6 x0 x1) (chunk1 c arg1 harg1 arg2 harg2 arg5 arg6 x0 x1) (chunk2 c arg1 harg1 arg2 harg2 arg5 arg6 x0 x1) (chunk3 c arg1 harg1 arg2 harg2 arg5 arg6 x0 x1) (stopsD c arg1 harg1 arg2 harg2 arg5 arg6 arg7 x0 x1) := rfl

/-- The first place of the run. -/
theorem run_first : kernelRun1_A.sl.r_58 c arg1 harg1 arg2 harg2 arg5 arg6 arg7 x0 x1
    = firstAll (chunk0 c arg1 harg1 arg2 harg2 arg5 arg6 x0 x1) (chunk1 c arg1 harg1 arg2 harg2 arg5 arg6 x0 x1) (chunk2 c arg1 harg1 arg2 harg2 arg5 arg6 x0 x1) (chunk3 c arg1 harg1 arg2 harg2 arg5 arg6 x0 x1) (kernelRun1_A.sl.r_56 c arg1 harg1 arg2 harg2 arg5 arg6 arg7 x0 x1) := rfl

end Nearest
-- ==== Proof.Dist.lean ====
/-
  The second body's table of distances: a product of the two operands and a row of squared norms are stored whole, then
  twenty-eight strips of 1792 columns are read back, turned into distances and stored over the product. What a later read of the
  table finds is one function of the two operands, the same at every column.
-/
module

public import proofs.«01_k».proof.Proof.Steps
public import Idealize.ShloMosaic.Lib.Pipeline.ReadBack
public import Idealize.ShloMosaic.Lib.Pipeline.ValueKit

public section

open Idealize.ShloMosaic Cert.KernelIdeal Cert.KernelIdeal.Gen

namespace Nearest

variable {F : FTy → Type} [FloatOps F]

/-- The first thirty columns of the queries times the first thirty rows of the data. -/
@[expose] noncomputable def prods (x0 : Vec F S64x32 .f32) (x1 : Vec F S32x50176 .f32) : FVec F S64x50176 .f32 :=
  k1_pay1 (View.ld x0 (Rect.unit ![0, 0] S64x30.size inb_S64x32_S64x30_0_0 : Rect S64x32))
    (View.ld x1 (Rect.unit ![0, 0] S30x50176.size inb_S32x50176_S30x50176_0_0 : Rect S32x50176))

/-- The data's row of norms plus the queries' column of norms. -/
@[expose] noncomputable def norms (x0 : Vec F S64x32 .f32) (x1 : Vec F S32x50176 .f32) : FVec F S64x50176 .f32 :=
  k1_pay2 (View.ld x1 (Rect.unit ![30, 0] S1x50176.size inb_S32x50176_S1x50176_30_0 : Rect S32x50176))
    (View.ld x0 (Rect.unit ![0, 31] S64x1.size inb_S64x32_S64x1_0_31 : Rect S64x32))

/-- The table of distances. -/
@[expose] noncomputable def dists (x0 : Vec F S64x32 .f32) (x1 : Vec F S32x50176 .f32) : FVec F S64x50176 .f32 :=
  sqrt (maximumf (addf (norms x0 x1) (prods x0 x1)) (broadcast S64x50176 (Scalar.ofBits .f32 0x2B8CBCCC#32)))

/-- One strip's distances, of what was read of the two tables. -/
@[expose] noncomputable def tile (a z : FVec F S64x1792 .f32) : FVec F S64x1792 .f32 :=
  sqrt (maximumf (addf a z) (broadcast S64x1792 (Scalar.ofBits .f32 0x2B8CBCCC#32)))

/-- A strip of 1792 columns of a table. -/
@[expose] noncomputable def strip (d : FVec F S64x50176 .f32) (o : Nat)
    (h : ∀ a, (![0, o] : Fin 2 → Nat) a + S64x1792.size a ≤ S64x50176.size a) : FVec F S64x1792 .f32 :=
  View.ld (Val := Elt F) (e' := .f32) (S := S64x50176) d (Rect.unit ![0, o] S64x1792.size h)

/-- A chunk of 12544 columns of a table. -/
@[expose] noncomputable def chunkOf (d : FVec F S64x50176 .f32) (o : Nat)
    (h : ∀ a, (![0, o] : Fin 2 → Nat) a + S64x12544.size a ≤ S64x50176.size a) : FVec F S64x12544 .f32 :=
  View.ld (Val := Elt F) (e' := .f32) (S := S64x50176) d (Rect.unit ![0, o] S64x12544.size h)

variable (c : Dev nD) (arg1 : Memref sig .tc .vmem S64x32 .f32) (harg1 : arg1.IsWhole)
  (arg2 : Memref sig .tc .vmem S32x50176 .f32) (harg2 : arg2.IsWhole)
  (arg5 arg6 : Memref sig .tc .vmem S64x50176 .f32) (arg7 : Memref sig .tc .vmem S64x1792 .f32)
  (x0 : Vec F S64x32 .f32) (x1 : Vec F S32x50176 .f32)

theorem stored_norms : kernelRun1_A.sl.HS1_1 c arg1 harg1 arg2 harg2 x0 x1
    = [⟨Rect.unit ![0, 0] S64x50176.size inb_S64x50176_S64x50176_0_0, norms x0 x1⟩] := by
  unfold kernelRun1_A.sl.HS1_1 norms
  simp only [View.readAt_eq_ld, Memref.IsWhole.read_unread]

theorem stored_prods : kernelRun1_A.sl.HS0_1 c arg1 harg1 arg2 harg2 x0 x1
    = [⟨Rect.unit ![0, 0] S64x50176.size inb_S64x50176_S64x50176_0_0, prods x0 x1⟩] := by
  unfold kernelRun1_A.sl.HS0_1 prods
  simp only [View.readAt_eq_ld, Memref.IsWhole.read_unread]

theorem read_norms_0 : kernelRun1_A.sl.v19 c arg1 harg1 arg2 harg2 arg6 x0 x1
    = View.ld (norms x0 x1) (Rect.unit ![0, 0] S64x1792.size inb_S64x50176_S64x1792_0_0 : Rect S64x50176) := by
  unfold kernelRun1_A.sl.v19
  rw [stored_norms, View.readCov_fill _ _ _ _ _ (by decide)]

theorem read_norms_1 : kernelRun1_A.sl.v29 c arg1 harg1 arg2 harg2 arg6 x0 x1
    = View.ld (norms x0 x1) (Rect.unit ![0, 1792] S64x1792.size inb_S64x50176_S64x1792_0_1792 : Rect S64x50176) := by
  unfold kernelRun1_A.sl.v29
  rw [stored_norms, View.readCov_fill _ _ _ _ _ (by decide)]

theorem read_norms_2 : kernelRun1_A.sl.v39 c arg1 harg1 arg2 harg2 arg6 x0 x1
    = View.ld (norms x0 x1) (Rect.unit ![0, 3584] S64x1792.size inb_S64x50176_S64x1792_0_3584 : Rect S64x50176) := by
  unfold kernelRun1_A.sl.v39
  rw [stored_norms, View.readCov_fill _ _ _ _ _ (by decide)]

theorem read_norms_3 : kernelRun1_A.sl.v49 c arg1 harg1 arg2 harg2 arg6 x0 x1
    = View.ld (norms x0 x1) (Rect.unit ![0, 5376] S64x1792.size inb_S64x50176_S64x1792_0_5376 : Rect S64x50176) := by
  unfold kernelRun1_A.sl.v49
  rw [stored_norms, View.readCov_fill _ _ _ _ _ (by decide)]

theorem read_norms_4 : kernelRun1_A.sl.v59 c arg1 harg1 arg2 harg2 arg6 x0 x1
    = View.ld (norms x0 x1) (Rect.unit ![0, 7168] S64x1792.size inb_S64x50176_S64x1792_0_7168 : Rect S64x50176) := by
  unfold kernelRun1_A.sl.v59
  rw [stored_norms, View.readCov_fill _ _ _ _ _ (by decide)]

theorem read_norms_5 : kernelRun1_A.sl.v69 c arg1 harg1 arg2 harg2 arg6 x0 x1
    = View.ld (norms x0 x1) (Rect.unit ![0, 8960] S64x1792.size inb_S64x50176_S64x1792_0_8960 : Rect S64x50176) := by
  unfold kernelRun1_A.sl.v69
  rw [stored_norms, View.readCov_fill _ _ _ _ _ (by decide)]

theorem read_norms_6 : kernelRun1_A.sl.v79 c arg1 harg1 arg2 harg2 arg6 x0 x1
    = View.ld (norms x0 x1) (Rect.unit ![0, 10752] S64x1792.size inb_S64x50176_S64x1792_0_10752 : Rect S64x50176) := by
  unfold kernelRun1_A.sl.v79
  rw [stored_norms, View.readCov_fill _ _ _ _ _ (by decide)]

theorem read_norms_7 : kernelRun1_A.sl.v89 c arg1 harg1 arg2 harg2 arg6 x0 x1
    = View.ld (norms x0 x1) (Rect.unit ![0, 12544] S64x1792.size inb_S64x50176_S64x1792_0_12544 : Rect S64x50176) := by
  unfold kernelRun1_A.sl.v89
  rw [stored_norms, View.readCov_fill _ _ _ _ _ (by decide)]

theorem read_norms_8 : kernelRun1_A.sl.v99 c arg1 harg1 arg2 harg2 arg6 x0 x1
    = View.ld (norms x0 x1) (Rect.unit ![0, 14336] S64x1792.size inb_S64x50176_S64x1792_0_14336 : Rect S64x50176) := by
  unfold kernelRun1_A.sl.v99
  rw [stored_norms, View.readCov_fill _ _ _ _ _ (by decide)]

theorem read_norms_9 : kernelRun1_A.sl.v109 c arg1 harg1 arg2 harg2 arg6 x0 x1
    = View.ld (norms x0 x1) (Rect.unit ![0, 16128] S64x1792.size inb_S64x50176_S64x1792_0_16128 : Rect S64x50176) := by
  unfold kernelRun1_A.sl.v109
  rw [stored_norms, View.readCov_fill _ _ _ _ _ (by decide)]

theorem read_norms_10 : kernelRun1_A.sl.v119 c arg1 harg1 arg2 harg2 arg6 x0 x1
    = View.ld (norms x0 x1) (Rect.unit ![0, 17920] S64x1792.size inb_S64x50176_S64x1792_0_17920 : Rect S64x50176) := by
  unfold kernelRun1_A.sl.v119
  rw [stored_norms, View.readCov_fill _ _ _ _ _ (by decide)]

theorem read_norms_11 : kernelRun1_A.sl.v129 c arg1 harg1 arg2 harg2 arg6 x0 x1
    = View.ld (norms x0 x1) (Rect.unit ![0, 19712] S64x1792.size inb_S64x50176_S64x1792_0_19712 : Rect S64x50176) := by
  unfold kernelRun1_A.sl.v129
  rw [stored_norms, View.readCov_fill _ _ _ _ _ (by decide)]

theorem read_norms_12 : kernelRun1_A.sl.v139 c arg1 harg1 arg2 harg2 arg6 x0 x1
    = View.ld (norms x0 x1) (Rect.unit ![0, 21504] S64x1792.size inb_S64x50176_S64x1792_0_21504 : Rect S64x50176) := by
  unfold kernelRun1_A.sl.v139
  rw [stored_norms, View.readCov_fill _ _ _ _ _ (by decide)]

theorem read_norms_13 : kernelRun1_A.sl.v149 c arg1 harg1 arg2 harg2 arg6 x0 x1
    = View.ld (norms x0 x1) (Rect.unit ![0, 23296] S64x1792.size inb_S64x50176_S64x1792_0_23296 : Rect S64x50176) := by
  unfold kernelRun1_A.sl.v149
  rw [stored_norms, View.readCov_fill _ _ _ _ _ (by decide)]

theorem read_norms_14 : kernelRun1_A.sl.v159 c arg1 harg1 arg2 harg2 arg6 x0 x1
    = View.ld (norms x0 x1) (Rect.unit ![0, 25088] S64x1792.size inb_S64x50176_S64x1792_0_25088 : Rect S64x50176) := by
  unfold kernelRun1_A.sl.v159
  rw [stored_norms, View.readCov_fill _ _ _ _ _ (by decide)]

theorem read_norms_15 : kernelRun1_A.sl.v169 c arg1 harg1 arg2 harg2 arg6 x0 x1
    = View.ld (norms x0 x1) (Rect.unit ![0, 26880] S64x1792.size inb_S64x50176_S64x1792_0_26880 : Rect S64x50176) := by
  unfold kernelRun1_A.sl.v169
  rw [stored_norms, View.readCov_fill _ _ _ _ _ (by decide)]

theorem read_norms_16 : kernelRun1_A.sl.v179 c arg1 harg1 arg2 harg2 arg6 x0 x1
    = View.ld (norms x0 x1) (Rect.unit ![0, 28672] S64x1792.size inb_S64x50176_S64x1792_0_28672 : Rect S64x50176) := by
  unfold kernelRun1_A.sl.v179
  rw [stored_norms, View.readCov_fill _ _ _ _ _ (by decide)]

theorem read_norms_17 : kernelRun1_A.sl.v189 c arg1 harg1 arg2 harg2 arg6 x0 x1
    = View.ld (norms x0 x1) (Rect.unit ![0, 30464] S64x1792.size inb_S64x50176_S64x1792_0_30464 : Rect S64x50176) := by
  unfold kernelRun1_A.sl.v189
  rw [stored_norms, View.readCov_fill _ _ _ _ _ (by decide)]

theorem read_norms_18 : kernelRun1_A.sl.v199 c arg1 harg1 arg2 harg2 arg6 x0 x1
    = View.ld (norms x0 x1) (Rect.unit ![0, 32256] S64x1792.size inb_S64x50176_S64x1792_0_32256 : Rect S64x50176) := by
  unfold kernelRun1_A.sl.v199
  rw [stored_norms, View.readCov_fill _ _ _ _ _ (by decide)]

theorem read_norms_19 : kernelRun1_A.sl.v209 c arg1 harg1 arg2 harg2 arg6 x0 x1
    = View.ld (norms x0 x1) (Rect.unit ![0, 34048] S64x1792.size inb_S64x50176_S64x1792_0_34048 : Rect S64x50176) := by
  unfold kernelRun1_A.sl.v209
  rw [stored_norms, View.readCov_fill _ _ _ _ _ (by decide)]

theorem read_norms_20 : kernelRun1_A.sl.v219 c arg1 harg1 arg2 harg2 arg6 x0 x1
    = View.ld (norms x0 x1) (Rect.unit ![0, 35840] S64x1792.size inb_S64x50176_S64x1792_0_35840 : Rect S64x50176) := by
  unfold kernelRun1_A.sl.v219
  rw [stored_norms, View.readCov_fill _ _ _ _ _ (by decide)]

theorem read_norms_21 : kernelRun1_A.sl.v229 c arg1 harg1 arg2 harg2 arg6 x0 x1
    = View.ld (norms x0 x1) (Rect.unit ![0, 37632] S64x1792.size inb_S64x50176_S64x1792_0_37632 : Rect S64x50176) := by
  unfold kernelRun1_A.sl.v229
  rw [stored_norms, View.readCov_fill _ _ _ _ _ (by decide)]

theorem read_norms_22 : kernelRun1_A.sl.v239 c arg1 harg1 arg2 harg2 arg6 x0 x1
    = View.ld (norms x0 x1) (Rect.unit ![0, 39424] S64x1792.size inb_S64x50176_S64x1792_0_39424 : Rect S64x50176) := by
  unfold kernelRun1_A.sl.v239
  rw [stored_norms, View.readCov_fill _ _ _ _ _ (by decide)]

theorem read_norms_23 : kernelRun1_A.sl.v249 c arg1 harg1 arg2 harg2 arg6 x0 x1
    = View.ld (norms x0 x1) (Rect.unit ![0, 41216] S64x1792.size inb_S64x50176_S64x1792_0_41216 : Rect S64x50176) := by
  unfold kernelRun1_A.sl.v249
  rw [stored_norms, View.readCov_fill _ _ _ _ _ (by decide)]

theorem read_norms_24 : kernelRun1_A.sl.v259 c arg1 harg1 arg2 harg2 arg6 x0 x1
    = View.ld (norms x0 x1) (Rect.unit ![0, 43008] S64x1792.size inb_S64x50176_S64x1792_0_43008 : Rect S64x50176) := by
  unfold kernelRun1_A.sl.v259
  rw [stored_norms, View.readCov_fill _ _ _ _ _ (by decide)]

theorem read_norms_25 : kernelRun1_A.sl.v269 c arg1 harg1 arg2 harg2 arg6 x0 x1
    = View.ld (norms x0 x1) (Rect.unit ![0, 44800] S64x1792.size inb_S64x50176_S64x1792_0_44800 : Rect S64x50176) := by
  unfold kernelRun1_A.sl.v269
  rw [stored_norms, View.readCov_fill _ _ _ _ _ (by decide)]

theorem read_norms_26 : kernelRun1_A.sl.v279 c arg1 harg1 arg2 harg2 arg6 x0 x1
    = View.ld (norms x0 x1) (Rect.unit ![0, 46592] S64x1792.size inb_S64x50176_S64x1792_0_46592 : Rect S64x50176) := by
  unfold kernelRun1_A.sl.v279
  rw [stored_norms, View.readCov_fill _ _ _ _ _ (by decide)]

theorem read_norms_27 : kernelRun1_A.sl.v289 c arg1 harg1 arg2 harg2 arg6 x0 x1
    = View.ld (norms x0 x1) (Rect.unit ![0, 48384] S64x1792.size inb_S64x50176_S64x1792_0_48384 : Rect S64x50176) := by
  unfold kernelRun1_A.sl.v289
  rw [stored_norms, View.readCov_fill _ _ _ _ _ (by decide)]

theorem read_prods_0 : kernelRun1_A.sl.v20 c arg1 harg1 arg2 harg2 arg5 x0 x1
    = View.ld (prods x0 x1) (Rect.unit ![0, 0] S64x1792.size inb_S64x50176_S64x1792_0_0 : Rect S64x50176) := by
  unfold kernelRun1_A.sl.v20
  simp (disch := decide) only [↓ View.readCov_skip, stored_prods, ↓ View.readCov_fill]

theorem read_prods_1 : kernelRun1_A.sl.v30 c arg1 harg1 arg2 harg2 arg5 arg6 x0 x1
    = View.ld (prods x0 x1) (Rect.unit ![0, 1792] S64x1792.size inb_S64x50176_S64x1792_0_1792 : Rect S64x50176) := by
  unfold kernelRun1_A.sl.v30 kernelRun1_A.sl.HS0_2
  simp (disch := decide) only [↓ View.readCov_skip, stored_prods, ↓ View.readCov_fill]

theorem read_prods_2 : kernelRun1_A.sl.v40 c arg1 harg1 arg2 harg2 arg5 arg6 x0 x1
    = View.ld (prods x0 x1) (Rect.unit ![0, 3584] S64x1792.size inb_S64x50176_S64x1792_0_3584 : Rect S64x50176) := by
  unfold kernelRun1_A.sl.v40 kernelRun1_A.sl.HS0_3 kernelRun1_A.sl.HS0_2
  simp (disch := decide) only [↓ View.readCov_skip, stored_prods, ↓ View.readCov_fill]

theorem read_prods_3 : kernelRun1_A.sl.v50 c arg1 harg1 arg2 harg2 arg5 arg6 x0 x1
    = View.ld (prods x0 x1) (Rect.unit ![0, 5376] S64x1792.size inb_S64x50176_S64x1792_0_5376 : Rect S64x50176) := by
  unfold kernelRun1_A.sl.v50 kernelRun1_A.sl.HS0_4 kernelRun1_A.sl.HS0_3 kernelRun1_A.sl.HS0_2
  simp (disch := decide) only [↓ View.readCov_skip, stored_prods, ↓ View.readCov_fill]

theorem read_prods_4 : kernelRun1_A.sl.v60 c arg1 harg1 arg2 harg2 arg5 arg6 x0 x1
    = View.ld (prods x0 x1) (Rect.unit ![0, 7168] S64x1792.size inb_S64x50176_S64x1792_0_7168 : Rect S64x50176) := by
  unfold kernelRun1_A.sl.v60 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_5 : kernelRun1_A.sl.v70 c arg1 harg1 arg2 harg2 arg5 arg6 x0 x1
    = View.ld (prods x0 x1) (Rect.unit ![0, 8960] S64x1792.size inb_S64x50176_S64x1792_0_8960 : Rect S64x50176) := by
  unfold kernelRun1_A.sl.v70 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_6 : kernelRun1_A.sl.v80 c arg1 harg1 arg2 harg2 arg5 arg6 x0 x1
    = View.ld (prods x0 x1) (Rect.unit ![0, 10752] S64x1792.size inb_S64x50176_S64x1792_0_10752 : Rect S64x50176) := by
  unfold kernelRun1_A.sl.v80 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_7 : kernelRun1_A.sl.v90 c arg1 harg1 arg2 harg2 arg5 arg6 x0 x1
    = View.ld (prods x0 x1) (Rect.unit ![0, 12544] S64x1792.size inb_S64x50176_S64x1792_0_12544 : Rect S64x50176) := by
  unfold kernelRun1_A.sl.v90 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_8 : kernelRun1_A.sl.v100 c arg1 harg1 arg2 harg2 arg5 arg6 x0 x1
    = View.ld (prods x0 x1) (Rect.unit ![0, 14336] S64x1792.size inb_S64x50176_S64x1792_0_14336 : Rect S64x50176) := by
  unfold kernelRun1_A.sl.v100 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_9 : kernelRun1_A.sl.v110 c arg1 harg1 arg2 harg2 arg5 arg6 x0 x1
    = View.ld (prods x0 x1) (Rect.unit ![0, 16128] S64x1792.size inb_S64x50176_S64x1792_0_16128 : Rect S64x50176) := by
  unfold kernelRun1_A.sl.v110 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_10 : kernelRun1_A.sl.v120 c arg1 harg1 arg2 harg2 arg5 arg6 x0 x1
    = View.ld (prods x0 x1) (Rect.unit ![0, 17920] S64x1792.size inb_S64x50176_S64x1792_0_17920 : Rect S64x50176) := by
  unfold kernelRun1_A.sl.v120 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_11 : kernelRun1_A.sl.v130 c arg1 harg1 arg2 harg2 arg5 arg6 x0 x1
    = View.ld (prods x0 x1) (Rect.unit ![0, 19712] S64x1792.size inb_S64x50176_S64x1792_0_19712 : Rect S64x50176) := by
  unfold kernelRun1_A.sl.v130 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_12 : kernelRun1_A.sl.v140 c arg1 harg1 arg2 harg2 arg5 arg6 x0 x1
    = View.ld (prods x0 x1) (Rect.unit ![0, 21504] S64x1792.size inb_S64x50176_S64x1792_0_21504 : Rect S64x50176) := by
  unfold kernelRun1_A.sl.v140 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_13 : kernelRun1_A.sl.v150 c arg1 harg1 arg2 harg2 arg5 arg6 x0 x1
    = View.ld (prods x0 x1) (Rect.unit ![0, 23296] S64x1792.size inb_S64x50176_S64x1792_0_23296 : Rect S64x50176) := by
  unfold kernelRun1_A.sl.v150 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_14 : kernelRun1_A.sl.v160 c arg1 harg1 arg2 harg2 arg5 arg6 x0 x1
    = View.ld (prods x0 x1) (Rect.unit ![0, 25088] S64x1792.size inb_S64x50176_S64x1792_0_25088 : Rect S64x50176) := by
  unfold kernelRun1_A.sl.v160 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_15 : kernelRun1_A.sl.v170 c arg1 harg1 arg2 harg2 arg5 arg6 x0 x1
    = View.ld (prods x0 x1) (Rect.unit ![0, 26880] S64x1792.size inb_S64x50176_S64x1792_0_26880 : Rect S64x50176) := by
  unfold kernelRun1_A.sl.v170 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_16 : kernelRun1_A.sl.v180 c arg1 harg1 arg2 harg2 arg5 arg6 x0 x1
    = View.ld (prods x0 x1) (Rect.unit ![0, 28672] S64x1792.size inb_S64x50176_S64x1792_0_28672 : Rect S64x50176) := by
  unfold kernelRun1_A.sl.v180 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_17 : kernelRun1_A.sl.v190 c arg1 harg1 arg2 harg2 arg5 arg6 x0 x1
    = View.ld (prods x0 x1) (Rect.unit ![0, 30464] S64x1792.size inb_S64x50176_S64x1792_0_30464 : Rect S64x50176) := by
  unfold kernelRun1_A.sl.v190 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_18 : kernelRun1_A.sl.v200 c arg1 harg1 arg2 harg2 arg5 arg6 x0 x1
    = View.ld (prods x0 x1) (Rect.unit ![0, 32256] S64x1792.size inb_S64x50176_S64x1792_0_32256 : Rect S64x50176) := by
  unfold kernelRun1_A.sl.v200 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_19 : kernelRun1_A.sl.v210 c arg1 harg1 arg2 harg2 arg5 arg6 x0 x1
    = View.ld (prods x0 x1) (Rect.unit ![0, 34048] S64x1792.size inb_S64x50176_S64x1792_0_34048 : Rect S64x50176) := by
  unfold kernelRun1_A.sl.v210 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_20 : kernelRun1_A.sl.v220 c arg1 harg1 arg2 harg2 arg5 arg6 x0 x1
    = View.ld (prods x0 x1) (Rect.unit ![0, 35840] S64x1792.size inb_S64x50176_S64x1792_0_35840 : Rect S64x50176) := by
  unfold kernelRun1_A.sl.v220 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_21 : kernelRun1_A.sl.v230 c arg1 harg1 arg2 harg2 arg5 arg6 x0 x1
    = View.ld (prods x0 x1) (Rect.unit ![0, 37632] S64x1792.size inb_S64x50176_S64x1792_0_37632 : Rect S64x50176) := by
  unfold kernelRun1_A.sl.v230 kernelRun1_A.sl.HS0_22 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_22 : kernelRun1_A.sl.v240 c arg1 harg1 arg2 harg2 arg5 arg6 x0 x1
    = View.ld (prods x0 x1) (Rect.unit ![0, 39424] S64x1792.size inb_S64x50176_S64x1792_0_39424 : Rect S64x50176) := by
  unfold kernelRun1_A.sl.v240 kernelRun1_A.sl.HS0_23 kernelRun1_A.sl.HS0_22 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_23 : kernelRun1_A.sl.v250 c arg1 harg1 arg2 harg2 arg5 arg6 x0 x1
    = View.ld (prods x0 x1) (Rect.unit ![0, 41216] S64x1792.size inb_S64x50176_S64x1792_0_41216 : Rect S64x50176) := by
  unfold kernelRun1_A.sl.v250 kernelRun1_A.sl.HS0_24 kernelRun1_A.sl.HS0_23 kernelRun1_A.sl.HS0_22 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_24 : kernelRun1_A.sl.v260 c arg1 harg1 arg2 harg2 arg5 arg6 x0 x1
    = View.ld (prods x0 x1) (Rect.unit ![0, 43008] S64x1792.size inb_S64x50176_S64x1792_0_43008 : Rect S64x50176) := by
  unfold kernelRun1_A.sl.v260 kernelRun1_A.sl.HS0_25 kernelRun1_A.sl.HS0_24 kernelRun1_A.sl.HS0_23 kernelRun1_A.sl.HS0_22 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_25 : kernelRun1_A.sl.v270 c arg1 harg1 arg2 harg2 arg5 arg6 x0 x1
    = View.ld (prods x0 x1) (Rect.unit ![0, 44800] S64x1792.size inb_S64x50176_S64x1792_0_44800 : Rect S64x50176) := by
  unfold kernelRun1_A.sl.v270 kernelRun1_A.sl.HS0_26 kernelRun1_A.sl.HS0_25 kernelRun1_A.sl.HS0_24 kernelRun1_A.sl.HS0_23 kernelRun1_A.sl.HS0_22 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_26 : kernelRun1_A.sl.v280 c arg1 harg1 arg2 harg2 arg5 arg6 x0 x1
    = View.ld (prods x0 x1) (Rect.unit ![0, 46592] S64x1792.size inb_S64x50176_S64x1792_0_46592 : Rect S64x50176) := by
  unfold kernelRun1_A.sl.v280 kernelRun1_A.sl.HS0_27 kernelRun1_A.sl.HS0_26 kernelRun1_A.sl.HS0_25 kernelRun1_A.sl.HS0_24 kernelRun1_A.sl.HS0_23 kernelRun1_A.sl.HS0_22 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

theorem read_prods_27 : kernelRun1_A.sl.v290 c arg1 harg1 arg2 harg2 arg5 arg6 x0 x1
    = View.ld (prods x0 x1) (Rect.unit ![0, 48384] S64x1792.size inb_S64x50176_S64x1792_0_48384 : Rect S64x50176) := by
  unfold kernelRun1_A.sl.v290 kernelRun1_A.sl.HS0_28 kernelRun1_A.sl.HS0_27 kernelRun1_A.sl.HS0_26 kernelRun1_A.sl.HS0_25 kernelRun1_A.sl.HS0_24 kernelRun1_A.sl.HS0_23 kernelRun1_A.sl.HS0_22 kernelRun1_A.sl.HS0_21 kernelRun1_A.sl.HS0_20 kernelRun1_A.sl.HS0_19 kernelRun1_A.sl.HS0_18 kernelRun1_A.sl.HS0_17 kernelRun1_A.sl.HS0_16 kernelRun1_A.sl.HS0_15 kernelRun1_A.sl.HS0_14 kernelRun1_A.sl.HS0_13 kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2
  simp (disch := decide) only [↓ View.readCov_skip, stored_prods, ↓ View.readCov_fill]

/-- The stores of the strips, last first. -/
noncomputable abbrev strips : List (View.Piece (Elt F) S64x50176 .f32) := [
    ⟨Rect.unit ![0, 48384] S64x1792.size inb_S64x50176_S64x1792_0_48384, shapeCast S64x1792 (tile (kernelRun1_A.sl.v289 c arg1 harg1 arg2 harg2 arg6 x0 x1) (kernelRun1_A.sl.v290 c arg1 harg1 arg2 harg2 arg5 arg6 x0 x1)) shapeCasts_S64x1792_S64x1792⟩,
    ⟨Rect.unit ![0, 46592] S64x1792.size inb_S64x50176_S64x1792_0_46592, shapeCast S64x1792 (tile (kernelRun1_A.sl.v279 c arg1 harg1 arg2 harg2 arg6 x0 x1) (kernelRun1_A.sl.v280 c arg1 harg1 arg2 harg2 arg5 arg6 x0 x1)) shapeCasts_S64x1792_S64x1792⟩,
    ⟨Rect.unit ![0, 44800] S64x1792.size inb_S64x50176_S64x1792_0_44800, shapeCast S64x1792 (tile (kernelRun1_A.sl.v269 c arg1 harg1 arg2 harg2 arg6 x0 x1) (kernelRun1_A.sl.v270 c arg1 harg1 arg2 harg2 arg5 arg6 x0 x1)) shapeCasts_S64x1792_S64x1792⟩,
    ⟨Rect.unit ![0, 43008] S64x1792.size inb_S64x50176_S64x1792_0_43008, shapeCast S64x1792 (tile (kernelRun1_A.sl.v259 c arg1 harg1 arg2 harg2 arg6 x0 x1) (kernelRun1_A.sl.v260 c arg1 harg1 arg2 harg2 arg5 arg6 x0 x1)) shapeCasts_S64x1792_S64x1792⟩,
    ⟨Rect.unit ![0, 41216] S64x1792.size inb_S64x50176_S64x1792_0_41216, shapeCast S64x1792 (tile (kernelRun1_A.sl.v249 c arg1 harg1 arg2 harg2 arg6 x0 x1) (kernelRun1_A.sl.v250 c arg1 harg1 arg2 harg2 arg5 arg6 x0 x1)) shapeCasts_S64x1792_S64x1792⟩,
    ⟨Rect.unit ![0, 39424] S64x1792.size inb_S64x50176_S64x1792_0_39424, shapeCast S64x1792 (tile (kernelRun1_A.sl.v239 c arg1 harg1 arg2 harg2 arg6 x0 x1) (kernelRun1_A.sl.v240 c arg1 harg1 arg2 harg2 arg5 arg6 x0 x1)) shapeCasts_S64x1792_S64x1792⟩,
    ⟨Rect.unit ![0, 37632] S64x1792.size inb_S64x50176_S64x1792_0_37632, shapeCast S64x1792 (tile (kernelRun1_A.sl.v229 c arg1 harg1 arg2 harg2 arg6 x0 x1) (kernelRun1_A.sl.v230 c arg1 harg1 arg2 harg2 arg5 arg6 x0 x1)) shapeCasts_S64x1792_S64x1792⟩,
    ⟨Rect.unit ![0, 35840] S64x1792.size inb_S64x50176_S64x1792_0_35840, shapeCast S64x1792 (tile (kernelRun1_A.sl.v219 c arg1 harg1 arg2 harg2 arg6 x0 x1) (kernelRun1_A.sl.v220 c arg1 harg1 arg2 harg2 arg5 arg6 x0 x1)) shapeCasts_S64x1792_S64x1792⟩,
    ⟨Rect.unit ![0, 34048] S64x1792.size inb_S64x50176_S64x1792_0_34048, shapeCast S64x1792 (tile (kernelRun1_A.sl.v209 c arg1 harg1 arg2 harg2 arg6 x0 x1) (kernelRun1_A.sl.v210 c arg1 harg1 arg2 harg2 arg5 arg6 x0 x1)) shapeCasts_S64x1792_S64x1792⟩,
    ⟨Rect.unit ![0, 32256] S64x1792.size inb_S64x50176_S64x1792_0_32256, shapeCast S64x1792 (tile (kernelRun1_A.sl.v199 c arg1 harg1 arg2 harg2 arg6 x0 x1) (kernelRun1_A.sl.v200 c arg1 harg1 arg2 harg2 arg5 arg6 x0 x1)) shapeCasts_S64x1792_S64x1792⟩,
    ⟨Rect.unit ![0, 30464] S64x1792.size inb_S64x50176_S64x1792_0_30464, shapeCast S64x1792 (tile (kernelRun1_A.sl.v189 c arg1 harg1 arg2 harg2 arg6 x0 x1) (kernelRun1_A.sl.v190 c arg1 harg1 arg2 harg2 arg5 arg6 x0 x1)) shapeCasts_S64x1792_S64x1792⟩,
    ⟨Rect.unit ![0, 28672] S64x1792.size inb_S64x50176_S64x1792_0_28672, shapeCast S64x1792 (tile (kernelRun1_A.sl.v179 c arg1 harg1 arg2 harg2 arg6 x0 x1) (kernelRun1_A.sl.v180 c arg1 harg1 arg2 harg2 arg5 arg6 x0 x1)) shapeCasts_S64x1792_S64x1792⟩,
    ⟨Rect.unit ![0, 26880] S64x1792.size inb_S64x50176_S64x1792_0_26880, shapeCast S64x1792 (tile (kernelRun1_A.sl.v169 c arg1 harg1 arg2 harg2 arg6 x0 x1) (kernelRun1_A.sl.v170 c arg1 harg1 arg2 harg2 arg5 arg6 x0 x1)) shapeCasts_S64x1792_S64x1792⟩,
    ⟨Rect.unit ![0, 25088] S64x1792.size inb_S64x50176_S64x1792_0_25088, shapeCast S64x1792 (tile (kernelRun1_A.sl.v159 c arg1 harg1 arg2 harg2 arg6 x0 x1) (kernelRun1_A.sl.v160 c arg1 harg1 arg2 harg2 arg5 arg6 x0 x1)) shapeCasts_S64x1792_S64x1792⟩,
    ⟨Rect.unit ![0, 23296] S64x1792.size inb_S64x50176_S64x1792_0_23296, shapeCast S64x1792 (tile (kernelRun1_A.sl.v149 c arg1 harg1 arg2 harg2 arg6 x0 x1) (kernelRun1_A.sl.v150 c arg1 harg1 arg2 harg2 arg5 arg6 x0 x1)) shapeCasts_S64x1792_S64x1792⟩,
    ⟨Rect.unit ![0, 21504] S64x1792.size inb_S64x50176_S64x1792_0_21504, shapeCast S64x1792 (tile (kernelRun1_A.sl.v139 c arg1 harg1 arg2 harg2 arg6 x0 x1) (kernelRun1_A.sl.v140 c arg1 harg1 arg2 harg2 arg5 arg6 x0 x1)) shapeCasts_S64x1792_S64x1792⟩,
    ⟨Rect.unit ![0, 19712] S64x1792.size inb_S64x50176_S64x1792_0_19712, shapeCast S64x1792 (tile (kernelRun1_A.sl.v129 c arg1 harg1 arg2 harg2 arg6 x0 x1) (kernelRun1_A.sl.v130 c arg1 harg1 arg2 harg2 arg5 arg6 x0 x1)) shapeCasts_S64x1792_S64x1792⟩,
    ⟨Rect.unit ![0, 17920] S64x1792.size inb_S64x50176_S64x1792_0_17920, shapeCast S64x1792 (tile (kernelRun1_A.sl.v119 c arg1 harg1 arg2 harg2 arg6 x0 x1) (kernelRun1_A.sl.v120 c arg1 harg1 arg2 harg2 arg5 arg6 x0 x1)) shapeCasts_S64x1792_S64x1792⟩,
    ⟨Rect.unit ![0, 16128] S64x1792.size inb_S64x50176_S64x1792_0_16128, shapeCast S64x1792 (tile (kernelRun1_A.sl.v109 c arg1 harg1 arg2 harg2 arg6 x0 x1) (kernelRun1_A.sl.v110 c arg1 harg1 arg2 harg2 arg5 arg6 x0 x1)) shapeCasts_S64x1792_S64x1792⟩,
    ⟨Rect.unit ![0, 14336] S64x1792.size inb_S64x50176_S64x1792_0_14336, shapeCast S64x1792 (tile (kernelRun1_A.sl.v99 c arg1 harg1 arg2 harg2 arg6 x0 x1) (kernelRun1_A.sl.v100 c arg1 harg1 arg2 harg2 arg5 arg6 x0 x1)) shapeCasts_S64x1792_S64x1792⟩,
    ⟨Rect.unit ![0, 12544] S64x1792.size inb_S64x50176_S64x1792_0_12544, shapeCast S64x1792 (tile (kernelRun1_A.sl.v89 c arg1 harg1 arg2 harg2 arg6 x0 x1) (kernelRun1_A.sl.v90 c arg1 harg1 arg2 harg2 arg5 arg6 x0 x1)) shapeCasts_S64x1792_S64x1792⟩,
    ⟨Rect.unit ![0, 10752] S64x1792.size inb_S64x50176_S64x1792_0_10752, shapeCast S64x1792 (tile (kernelRun1_A.sl.v79 c arg1 harg1 arg2 harg2 arg6 x0 x1) (kernelRun1_A.sl.v80 c arg1 harg1 arg2 harg2 arg5 arg6 x0 x1)) shapeCasts_S64x1792_S64x1792⟩,
    ⟨Rect.unit ![0, 8960] S64x1792.size inb_S64x50176_S64x1792_0_8960, shapeCast S64x1792 (tile (kernelRun1_A.sl.v69 c arg1 harg1 arg2 harg2 arg6 x0 x1) (kernelRun1_A.sl.v70 c arg1 harg1 arg2 harg2 arg5 arg6 x0 x1)) shapeCasts_S64x1792_S64x1792⟩,
    ⟨Rect.unit ![0, 7168] S64x1792.size inb_S64x50176_S64x1792_0_7168, shapeCast S64x1792 (tile (kernelRun1_A.sl.v59 c arg1 harg1 arg2 harg2 arg6 x0 x1) (kernelRun1_A.sl.v60 c arg1 harg1 arg2 harg2 arg5 arg6 x0 x1)) shapeCasts_S64x1792_S64x1792⟩,
    ⟨Rect.unit ![0, 5376] S64x1792.size inb_S64x50176_S64x1792_0_5376, shapeCast S64x1792 (tile (kernelRun1_A.sl.v49 c arg1 harg1 arg2 harg2 arg6 x0 x1) (kernelRun1_A.sl.v50 c arg1 harg1 arg2 harg2 arg5 arg6 x0 x1)) shapeCasts_S64x1792_S64x1792⟩,
    ⟨Rect.unit ![0, 3584] S64x1792.size inb_S64x50176_S64x1792_0_3584, shapeCast S64x1792 (tile (kernelRun1_A.sl.v39 c arg1 harg1 arg2 harg2 arg6 x0 x1) (kernelRun1_A.sl.v40 c arg1 harg1 arg2 harg2 arg5 arg6 x0 x1)) shapeCasts_S64x1792_S64x1792⟩,
    ⟨Rect.unit ![0, 1792] S64x1792.size inb_S64x50176_S64x1792_0_1792, shapeCast S64x1792 (tile (kernelRun1_A.sl.v29 c arg1 harg1 arg2 harg2 arg6 x0 x1) (kernelRun1_A.sl.v30 c arg1 harg1 arg2 harg2 arg5 arg6 x0 x1)) shapeCasts_S64x1792_S64x1792⟩,
    ⟨Rect.unit ![0, 0] S64x1792.size inb_S64x50176_S64x1792_0_0, shapeCast S64x1792 (tile (kernelRun1_A.sl.v19 c arg1 harg1 arg2 harg2 arg6 x0 x1) (kernelRun1_A.sl.v20 c arg1 harg1 arg2 harg2 arg5 x0 x1)) shapeCasts_S64x1792_S64x1792⟩]

theorem stored_strips : kernelRun1_A.sl.HS0_29 c arg1 harg1 arg2 harg2 arg5 arg6 x0 x1 = strips c arg1 harg1 arg2 harg2 arg5 arg6 x0 x1 ++ kernelRun1_A.sl.HS0_1 c arg1 harg1 arg2 harg2 x0 x1 := rfl

theorem strips_blocks : View.PiecesOf (dists x0 x1) (strips c arg1 harg1 arg2 harg2 arg5 arg6 x0 x1) := by
  unfold strips
  refine ⟨?_, ?_, ?_, ?_, ?_, ?_, ?_, ?_, ?_, ?_, ?_, ?_, ?_, ?_, ?_, ?_, ?_, ?_, ?_, ?_, ?_, ?_, ?_, ?_, ?_, ?_, ?_, ?_, trivial⟩
  · intro x; rw [shapeCast_self, read_norms_27, read_prods_27]; rfl
  · intro x; rw [shapeCast_self, read_norms_26, read_prods_26]; rfl
  · intro x; rw [shapeCast_self, read_norms_25, read_prods_25]; rfl
  · intro x; rw [shapeCast_self, read_norms_24, read_prods_24]; rfl
  · intro x; rw [shapeCast_self, read_norms_23, read_prods_23]; rfl
  · intro x; rw [shapeCast_self, read_norms_22, read_prods_22]; rfl
  · intro x; rw [shapeCast_self, read_norms_21, read_prods_21]; rfl
  · intro x; rw [shapeCast_self, read_norms_20, read_prods_20]; rfl
  · intro x; rw [shapeCast_self, read_norms_19, read_prods_19]; rfl
  · intro x; rw [shapeCast_self, read_norms_18, read_prods_18]; rfl
  · intro x; rw [shapeCast_self, read_norms_17, read_prods_17]; rfl
  · intro x; rw [shapeCast_self, read_norms_16, read_prods_16]; rfl
  · intro x; rw [shapeCast_self, read_norms_15, read_prods_15]; rfl
  · intro x; rw [shapeCast_self, read_norms_14, read_prods_14]; rfl
  · intro x; rw [shapeCast_self, read_norms_13, read_prods_13]; rfl
  · intro x; rw [shapeCast_self, read_norms_12, read_prods_12]; rfl
  · intro x; rw [shapeCast_self, read_norms_11, read_prods_11]; rfl
  · intro x; rw [shapeCast_self, read_norms_10, read_prods_10]; rfl
  · intro x; rw [shapeCast_self, read_norms_9, read_prods_9]; rfl
  · intro x; rw [shapeCast_self, read_norms_8, read_prods_8]; rfl
  · intro x; rw [shapeCast_self, read_norms_7, read_prods_7]; rfl
  · intro x; rw [shapeCast_self, read_norms_6, read_prods_6]; rfl
  · intro x; rw [shapeCast_self, read_norms_5, read_prods_5]; rfl
  · intro x; rw [shapeCast_self, read_norms_4, read_prods_4]; rfl
  · intro x; rw [shapeCast_self, read_norms_3, read_prods_3]; rfl
  · intro x; rw [shapeCast_self, read_norms_2, read_prods_2]; rfl
  · intro x; rw [shapeCast_self, read_norms_1, read_prods_1]; rfl
  · intro x; rw [shapeCast_self, read_norms_0, read_prods_0]; rfl

/-- Every place of the table is in some strip. -/
theorem strips_cover (y : S64x50176.Idx) : ∃ p ∈ strips c arg1 harg1 arg2 harg2 arg5 arg6 x0 x1, y ∈ p.1.set :=
  View.cover_of_tiledL (strips c arg1 harg1 arg2 harg2 arg5 arg6 x0 x1) S64x1792.size (by sl_kernel_rfl) y

theorem table (y : S64x50176.Idx) :
    View.canon (kernelRun1_A.sl.HS0_29 c arg1 harg1 arg2 harg2 arg5 arg6 x0 x1) y = dists x0 x1 y := by
  rw [stored_strips]
  exact View.canon_append_of_piecesOf _ _ _ (strips_blocks c arg1 harg1 arg2 harg2 arg5 arg6 x0 x1) y (strips_cover c arg1 harg1 arg2 harg2 arg5 arg6 x0 x1 y)

theorem chunk0_eq : chunk0 c arg1 harg1 arg2 harg2 arg5 arg6 x0 x1
    = chunkOf (dists x0 x1) 0 inb_S64x50176_S64x12544_0_0 := by
  unfold chunk0 kernelRun1_A.sl.v426
  rw [View.readCov_eq_canon']
  exact funext fun j => table c arg1 harg1 arg2 harg2 arg5 arg6 x0 x1 _

theorem chunk1_eq : chunk1 c arg1 harg1 arg2 harg2 arg5 arg6 x0 x1
    = chunkOf (dists x0 x1) 12544 inb_S64x50176_S64x12544_0_12544 := by
  unfold chunk1 kernelRun1_A.sl.v489
  rw [View.readCov_eq_canon']
  exact funext fun j => table c arg1 harg1 arg2 harg2 arg5 arg6 x0 x1 _

theorem chunk2_eq : chunk2 c arg1 harg1 arg2 harg2 arg5 arg6 x0 x1
    = chunkOf (dists x0 x1) 25088 inb_S64x50176_S64x12544_0_25088 := by
  unfold chunk2 kernelRun1_A.sl.v552
  rw [View.readCov_eq_canon']
  exact funext fun j => table c arg1 harg1 arg2 harg2 arg5 arg6 x0 x1 _

theorem chunk3_eq : chunk3 c arg1 harg1 arg2 harg2 arg5 arg6 x0 x1
    = chunkOf (dists x0 x1) 37632 inb_S64x50176_S64x12544_0_37632 := by
  unfold chunk3 kernelRun1_A.sl.v615
  rw [View.readCov_eq_canon']
  exact funext fun j => table c arg1 harg1 arg2 harg2 arg5 arg6 x0 x1 _

/-- The group minima: the strips' minimum, lane by lane. -/
@[expose] noncomputable def lanes (d : FVec F S64x50176 .f32) : FVec F S64x1792 .f32 :=
  minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (broadcast S64x1792 high)
    (strip d 0 inb_S64x50176_S64x1792_0_0))
    (strip d 1792 inb_S64x50176_S64x1792_0_1792))
    (strip d 3584 inb_S64x50176_S64x1792_0_3584))
    (strip d 5376 inb_S64x50176_S64x1792_0_5376))
    (strip d 7168 inb_S64x50176_S64x1792_0_7168))
    (strip d 8960 inb_S64x50176_S64x1792_0_8960))
    (strip d 10752 inb_S64x50176_S64x1792_0_10752))
    (strip d 12544 inb_S64x50176_S64x1792_0_12544))
    (strip d 14336 inb_S64x50176_S64x1792_0_14336))
    (strip d 16128 inb_S64x50176_S64x1792_0_16128))
    (strip d 17920 inb_S64x50176_S64x1792_0_17920))
    (strip d 19712 inb_S64x50176_S64x1792_0_19712))
    (strip d 21504 inb_S64x50176_S64x1792_0_21504))
    (strip d 23296 inb_S64x50176_S64x1792_0_23296))
    (strip d 25088 inb_S64x50176_S64x1792_0_25088))
    (strip d 26880 inb_S64x50176_S64x1792_0_26880))
    (strip d 28672 inb_S64x50176_S64x1792_0_28672))
    (strip d 30464 inb_S64x50176_S64x1792_0_30464))
    (strip d 32256 inb_S64x50176_S64x1792_0_32256))
    (strip d 34048 inb_S64x50176_S64x1792_0_34048))
    (strip d 35840 inb_S64x50176_S64x1792_0_35840))
    (strip d 37632 inb_S64x50176_S64x1792_0_37632))
    (strip d 39424 inb_S64x50176_S64x1792_0_39424))
    (strip d 41216 inb_S64x50176_S64x1792_0_41216))
    (strip d 43008 inb_S64x50176_S64x1792_0_43008))
    (strip d 44800 inb_S64x50176_S64x1792_0_44800))
    (strip d 46592 inb_S64x50176_S64x1792_0_46592))
    (strip d 48384 inb_S64x50176_S64x1792_0_48384)

theorem lanes_eq : kernelRun1_A.sl.v304 c arg1 harg1 arg2 harg2 arg5 arg6 arg7 x0 x1 = lanes (dists x0 x1) := by
  have h : kernelRun1_A.sl.v304 c arg1 harg1 arg2 harg2 arg5 arg6 arg7 x0 x1 = kernelRun1_A.sl.r_11 c arg1 harg1 arg2 harg2 arg5 arg6 x0 x1 := by
    unfold kernelRun1_A.sl.v304 kernelRun1_A.sl.HS2_1 k1_pay68
    rw [View.readCov_cons_toLoadRect]
    exact shapeCast_self _ _
  rw [h]
  unfold lanes
  rw [show strip (dists x0 x1) 0 inb_S64x50176_S64x1792_0_0 = tile (kernelRun1_A.sl.v19 c arg1 harg1 arg2 harg2 arg6 x0 x1) (kernelRun1_A.sl.v20 c arg1 harg1 arg2 harg2 arg5 x0 x1) by rw [read_norms_0, read_prods_0]; rfl]
  rw [show strip (dists x0 x1) 1792 inb_S64x50176_S64x1792_0_1792 = tile (kernelRun1_A.sl.v29 c arg1 harg1 arg2 harg2 arg6 x0 x1) (kernelRun1_A.sl.v30 c arg1 harg1 arg2 harg2 arg5 arg6 x0 x1) by rw [read_norms_1, read_prods_1]; rfl]
  rw [show strip (dists x0 x1) 3584 inb_S64x50176_S64x1792_0_3584 = tile (kernelRun1_A.sl.v39 c arg1 harg1 arg2 harg2 arg6 x0 x1) (kernelRun1_A.sl.v40 c arg1 harg1 arg2 harg2 arg5 arg6 x0 x1) by rw [read_norms_2, read_prods_2]; rfl]
  rw [show strip (dists x0 x1) 5376 inb_S64x50176_S64x1792_0_5376 = tile (kernelRun1_A.sl.v49 c arg1 harg1 arg2 harg2 arg6 x0 x1) (kernelRun1_A.sl.v50 c arg1 harg1 arg2 harg2 arg5 arg6 x0 x1) by rw [read_norms_3, read_prods_3]; rfl]
  rw [show strip (dists x0 x1) 7168 inb_S64x50176_S64x1792_0_7168 = tile (kernelRun1_A.sl.v59 c arg1 harg1 arg2 harg2 arg6 x0 x1) (kernelRun1_A.sl.v60 c arg1 harg1 arg2 harg2 arg5 arg6 x0 x1) by rw [read_norms_4, read_prods_4]; rfl]
  rw [show strip (dists x0 x1) 8960 inb_S64x50176_S64x1792_0_8960 = tile (kernelRun1_A.sl.v69 c arg1 harg1 arg2 harg2 arg6 x0 x1) (kernelRun1_A.sl.v70 c arg1 harg1 arg2 harg2 arg5 arg6 x0 x1) by rw [read_norms_5, read_prods_5]; rfl]
  rw [show strip (dists x0 x1) 10752 inb_S64x50176_S64x1792_0_10752 = tile (kernelRun1_A.sl.v79 c arg1 harg1 arg2 harg2 arg6 x0 x1) (kernelRun1_A.sl.v80 c arg1 harg1 arg2 harg2 arg5 arg6 x0 x1) by rw [read_norms_6, read_prods_6]; rfl]
  rw [show strip (dists x0 x1) 12544 inb_S64x50176_S64x1792_0_12544 = tile (kernelRun1_A.sl.v89 c arg1 harg1 arg2 harg2 arg6 x0 x1) (kernelRun1_A.sl.v90 c arg1 harg1 arg2 harg2 arg5 arg6 x0 x1) by rw [read_norms_7, read_prods_7]; rfl]
  rw [show strip (dists x0 x1) 14336 inb_S64x50176_S64x1792_0_14336 = tile (kernelRun1_A.sl.v99 c arg1 harg1 arg2 harg2 arg6 x0 x1) (kernelRun1_A.sl.v100 c arg1 harg1 arg2 harg2 arg5 arg6 x0 x1) by rw [read_norms_8, read_prods_8]; rfl]
  rw [show strip (dists x0 x1) 16128 inb_S64x50176_S64x1792_0_16128 = tile (kernelRun1_A.sl.v109 c arg1 harg1 arg2 harg2 arg6 x0 x1) (kernelRun1_A.sl.v110 c arg1 harg1 arg2 harg2 arg5 arg6 x0 x1) by rw [read_norms_9, read_prods_9]; rfl]
  rw [show strip (dists x0 x1) 17920 inb_S64x50176_S64x1792_0_17920 = tile (kernelRun1_A.sl.v119 c arg1 harg1 arg2 harg2 arg6 x0 x1) (kernelRun1_A.sl.v120 c arg1 harg1 arg2 harg2 arg5 arg6 x0 x1) by rw [read_norms_10, read_prods_10]; rfl]
  rw [show strip (dists x0 x1) 19712 inb_S64x50176_S64x1792_0_19712 = tile (kernelRun1_A.sl.v129 c arg1 harg1 arg2 harg2 arg6 x0 x1) (kernelRun1_A.sl.v130 c arg1 harg1 arg2 harg2 arg5 arg6 x0 x1) by rw [read_norms_11, read_prods_11]; rfl]
  rw [show strip (dists x0 x1) 21504 inb_S64x50176_S64x1792_0_21504 = tile (kernelRun1_A.sl.v139 c arg1 harg1 arg2 harg2 arg6 x0 x1) (kernelRun1_A.sl.v140 c arg1 harg1 arg2 harg2 arg5 arg6 x0 x1) by rw [read_norms_12, read_prods_12]; rfl]
  rw [show strip (dists x0 x1) 23296 inb_S64x50176_S64x1792_0_23296 = tile (kernelRun1_A.sl.v149 c arg1 harg1 arg2 harg2 arg6 x0 x1) (kernelRun1_A.sl.v150 c arg1 harg1 arg2 harg2 arg5 arg6 x0 x1) by rw [read_norms_13, read_prods_13]; rfl]
  rw [show strip (dists x0 x1) 25088 inb_S64x50176_S64x1792_0_25088 = tile (kernelRun1_A.sl.v159 c arg1 harg1 arg2 harg2 arg6 x0 x1) (kernelRun1_A.sl.v160 c arg1 harg1 arg2 harg2 arg5 arg6 x0 x1) by rw [read_norms_14, read_prods_14]; rfl]
  rw [show strip (dists x0 x1) 26880 inb_S64x50176_S64x1792_0_26880 = tile (kernelRun1_A.sl.v169 c arg1 harg1 arg2 harg2 arg6 x0 x1) (kernelRun1_A.sl.v170 c arg1 harg1 arg2 harg2 arg5 arg6 x0 x1) by rw [read_norms_15, read_prods_15]; rfl]
  rw [show strip (dists x0 x1) 28672 inb_S64x50176_S64x1792_0_28672 = tile (kernelRun1_A.sl.v179 c arg1 harg1 arg2 harg2 arg6 x0 x1) (kernelRun1_A.sl.v180 c arg1 harg1 arg2 harg2 arg5 arg6 x0 x1) by rw [read_norms_16, read_prods_16]; rfl]
  rw [show strip (dists x0 x1) 30464 inb_S64x50176_S64x1792_0_30464 = tile (kernelRun1_A.sl.v189 c arg1 harg1 arg2 harg2 arg6 x0 x1) (kernelRun1_A.sl.v190 c arg1 harg1 arg2 harg2 arg5 arg6 x0 x1) by rw [read_norms_17, read_prods_17]; rfl]
  rw [show strip (dists x0 x1) 32256 inb_S64x50176_S64x1792_0_32256 = tile (kernelRun1_A.sl.v199 c arg1 harg1 arg2 harg2 arg6 x0 x1) (kernelRun1_A.sl.v200 c arg1 harg1 arg2 harg2 arg5 arg6 x0 x1) by rw [read_norms_18, read_prods_18]; rfl]
  rw [show strip (dists x0 x1) 34048 inb_S64x50176_S64x1792_0_34048 = tile (kernelRun1_A.sl.v209 c arg1 harg1 arg2 harg2 arg6 x0 x1) (kernelRun1_A.sl.v210 c arg1 harg1 arg2 harg2 arg5 arg6 x0 x1) by rw [read_norms_19, read_prods_19]; rfl]
  rw [show strip (dists x0 x1) 35840 inb_S64x50176_S64x1792_0_35840 = tile (kernelRun1_A.sl.v219 c arg1 harg1 arg2 harg2 arg6 x0 x1) (kernelRun1_A.sl.v220 c arg1 harg1 arg2 harg2 arg5 arg6 x0 x1) by rw [read_norms_20, read_prods_20]; rfl]
  rw [show strip (dists x0 x1) 37632 inb_S64x50176_S64x1792_0_37632 = tile (kernelRun1_A.sl.v229 c arg1 harg1 arg2 harg2 arg6 x0 x1) (kernelRun1_A.sl.v230 c arg1 harg1 arg2 harg2 arg5 arg6 x0 x1) by rw [read_norms_21, read_prods_21]; rfl]
  rw [show strip (dists x0 x1) 39424 inb_S64x50176_S64x1792_0_39424 = tile (kernelRun1_A.sl.v239 c arg1 harg1 arg2 harg2 arg6 x0 x1) (kernelRun1_A.sl.v240 c arg1 harg1 arg2 harg2 arg5 arg6 x0 x1) by rw [read_norms_22, read_prods_22]; rfl]
  rw [show strip (dists x0 x1) 41216 inb_S64x50176_S64x1792_0_41216 = tile (kernelRun1_A.sl.v249 c arg1 harg1 arg2 harg2 arg6 x0 x1) (kernelRun1_A.sl.v250 c arg1 harg1 arg2 harg2 arg5 arg6 x0 x1) by rw [read_norms_23, read_prods_23]; rfl]
  rw [show strip (dists x0 x1) 43008 inb_S64x50176_S64x1792_0_43008 = tile (kernelRun1_A.sl.v259 c arg1 harg1 arg2 harg2 arg6 x0 x1) (kernelRun1_A.sl.v260 c arg1 harg1 arg2 harg2 arg5 arg6 x0 x1) by rw [read_norms_24, read_prods_24]; rfl]
  rw [show strip (dists x0 x1) 44800 inb_S64x50176_S64x1792_0_44800 = tile (kernelRun1_A.sl.v269 c arg1 harg1 arg2 harg2 arg6 x0 x1) (kernelRun1_A.sl.v270 c arg1 harg1 arg2 harg2 arg5 arg6 x0 x1) by rw [read_norms_25, read_prods_25]; rfl]
  rw [show strip (dists x0 x1) 46592 inb_S64x50176_S64x1792_0_46592 = tile (kernelRun1_A.sl.v279 c arg1 harg1 arg2 harg2 arg6 x0 x1) (kernelRun1_A.sl.v280 c arg1 harg1 arg2 harg2 arg5 arg6 x0 x1) by rw [read_norms_26, read_prods_26]; rfl]
  rw [show strip (dists x0 x1) 48384 inb_S64x50176_S64x1792_0_48384 = tile (kernelRun1_A.sl.v289 c arg1 harg1 arg2 harg2 arg6 x0 x1) (kernelRun1_A.sl.v290 c arg1 harg1 arg2 harg2 arg5 arg6 x0 x1) by rw [read_norms_27, read_prods_27]; rfl]
  rfl

end Nearest
-- ==== Proof.Out.lean ====
/-
  What the second kernel body leaves in its output block, as one function of its three operands.
-/
module

public import proofs.«01_k».proof.Proof.Dist

public section

open Idealize.ShloMosaic Cert.KernelIdeal Cert.KernelIdeal.Gen

namespace Nearest

variable {F : FTy → Type} [FloatOps F]

/-- The threshold of a table. -/
@[expose] noncomputable def tauOf (d : FVec F S64x50176 .f32) : FVec F S64x1 .f32 :=
  (climb (lanes d))^[15] (broadcast S64x1 low)

/-- The four chunks of a table. -/
@[expose] noncomputable def quarter (d : FVec F S64x50176 .f32) : Fin 4 → FVec F S64x12544 .f32
  | 0 => chunkOf d 0 inb_S64x50176_S64x12544_0_0
  | 1 => chunkOf d 12544 inb_S64x50176_S64x12544_0_12544
  | 2 => chunkOf d 25088 inb_S64x50176_S64x12544_0_25088
  | 3 => chunkOf d 37632 inb_S64x50176_S64x12544_0_37632

/-- The four last stops below a table's threshold. -/
@[expose] noncomputable def stopsOf (d : FVec F S64x50176 .f32) : Nat → FVec F S64x1 .f32 :=
  stopsNext (tauOf d) (stopsNext (tauOf d) (stopsNext (tauOf d) (stops1 (tauOf d) (quarter d 0)) (quarter d 1)) (quarter d 2))
    (quarter d 3)

/-- The bound of a table. -/
@[expose] noncomputable def boundOf (d : FVec F S64x50176 .f32) : FVec F S64x1 .f32 :=
  chosen (quarter d 0) (quarter d 1) (quarter d 2) (quarter d 3) (stopsOf d)

/-- The first place at a table's bound. -/
@[expose] noncomputable def placeOf (d : FVec F S64x50176 .f32) : FVec F S64x1 .f32 :=
  firstAll (quarter d 0) (quarter d 1) (quarter d 2) (quarter d 3) (boundOf d)

/-- Twelve thousand five hundred and forty-four rows of the labels. -/
@[expose] noncomputable def labelRows (x2 : FVec F S50176x16 .bf16) (o : Nat)
    (h : ∀ a, (![o, 0] : Fin 2 → Nat) a + S12544x16.size a ≤ S50176x16.size a) : FVec F S12544x16 .bf16 :=
  View.ld (Val := Elt F) (e' := .bf16) (S := S50176x16) x2 (Rect.unit ![o, 0] S12544x16.size h)

/-- The block of results of a table of distances and the labels. -/
@[expose] noncomputable def answer (d : FVec F S64x50176 .f32) (x2 : FVec F S50176x16 .bf16) : FVec F S64x10 .f32 :=
  finish (quarter d 0) (quarter d 1) (quarter d 2) (quarter d 3) (boundOf d) (placeOf d)
    (labelRows x2 0 inb_S50176x16_S12544x16_0_0) (labelRows x2 12544 inb_S50176x16_S12544x16_12544_0)
    (labelRows x2 25088 inb_S50176x16_S12544x16_25088_0) (labelRows x2 37632 inb_S50176x16_S12544x16_37632_0)

variable (c : Dev nD) (i : grid1.Coords) (arg1 : Memref sig .tc .vmem S64x32 .f32) (harg1 : arg1.IsWhole)
  (arg2 : Memref sig .tc .vmem S32x50176 .f32) (harg2 : arg2.IsWhole)
  (arg3 : Memref sig .tc .vmem S50176x16 .bf16) (harg3 : arg3.IsWhole)
  (arg4 : Memref sig .tc .vmem S64x10 .f32) (harg4 : arg4.IsWhole)
  (arg5 : Memref sig .tc .vmem S64x50176 .f32) (harg5 : arg5.IsWhole)
  (arg6 : Memref sig .tc .vmem S64x50176 .f32) (harg6 : arg6.IsWhole)
  (arg7 : Memref sig .tc .vmem S64x1792 .f32) (harg7 : arg7.IsWhole)
  (x0 : Vec F S64x32 .f32) (x1 : Vec F S32x50176 .f32) (x2 : Vec F S50176x16 .bf16)

theorem run_tauOf : tau c arg1 harg1 arg2 harg2 arg5 arg6 arg7 x0 x1 = tauOf (dists x0 x1) := by
  unfold tau tauOf
  rw [run_tau, lanes_eq]

theorem run_stops : stopsD c arg1 harg1 arg2 harg2 arg5 arg6 arg7 x0 x1 = stopsOf (dists x0 x1) := by
  unfold stopsD stopsC stopsB stopsOf
  rw [run_tauOf, chunk0_eq, chunk1_eq, chunk2_eq, chunk3_eq]
  rfl

theorem run_boundOf : kernelRun1_A.sl.r_56 c arg1 harg1 arg2 harg2 arg5 arg6 arg7 x0 x1 = boundOf (dists x0 x1) := by
  rw [run_bound, run_stops, chunk0_eq, chunk1_eq, chunk2_eq, chunk3_eq]
  rfl

theorem run_placeOf : kernelRun1_A.sl.r_58 c arg1 harg1 arg2 harg2 arg5 arg6 arg7 x0 x1 = placeOf (dists x0 x1) := by
  rw [run_first, run_boundOf, chunk0_eq, chunk1_eq, chunk2_eq, chunk3_eq]
  rfl

/-- The labels' rows as the run reads them. -/
noncomputable abbrev labelRead (o : Nat)
    (h : ∀ a, (![o, 0] : Fin 2 → Nat) a + S12544x16.size a ≤ S50176x16.size a) : FVec F S12544x16 .bf16 :=
  View.readAt (Elt F) arg3.view (Rect.unit (s := S50176x16) ![o, 0] S12544x16.size h).toLoadRect (harg3.unread x2)

/-- The run's one stored piece of the output. -/
theorem run_piece : (kernelRun1_A c i arg1 harg1 arg2 harg2 arg3 harg3 arg4 harg4 arg5 harg5 arg6 harg6 arg7 harg7 x0 x1 x2).1
    = [⟨Rect.unit ![0, 0] S64x10.size inb_S64x10_S64x10_0_0,
        finish (chunk0 c arg1 harg1 arg2 harg2 arg5 arg6 x0 x1) (chunk1 c arg1 harg1 arg2 harg2 arg5 arg6 x0 x1)
          (chunk2 c arg1 harg1 arg2 harg2 arg5 arg6 x0 x1) (chunk3 c arg1 harg1 arg2 harg2 arg5 arg6 x0 x1)
          (kernelRun1_A.sl.r_56 c arg1 harg1 arg2 harg2 arg5 arg6 arg7 x0 x1)
          (kernelRun1_A.sl.r_58 c arg1 harg1 arg2 harg2 arg5 arg6 arg7 x0 x1)
          (labelRead arg3 harg3 x2 0 inb_S50176x16_S12544x16_0_0)
          (labelRead arg3 harg3 x2 12544 inb_S50176x16_S12544x16_12544_0)
          (labelRead arg3 harg3 x2 25088 inb_S50176x16_S12544x16_25088_0)
          (labelRead arg3 harg3 x2 37632 inb_S50176x16_S12544x16_37632_0)⟩] := by
  unfold kernelRun1_A
  rfl

/-- The output block of the second kernel. -/
theorem out_eq : out1_A_3 c i arg1 harg1 arg2 harg2 arg3 harg3 arg4 harg4 arg5 harg5 arg6 harg6 arg7 harg7 x0 x1 x2
    = answer (dists x0 x1) x2 := by
  unfold out1_A_3
  rw [View.read_writes_junk_eq_canon, run_piece, run_boundOf, run_placeOf, chunk0_eq, chunk1_eq, chunk2_eq, chunk3_eq]
  unfold labelRead
  simp only [View.readAt_eq_ld, Memref.IsWhole.read_unread]
  exact View.canon_unit_zero (funext fun a => by fin_cases a <;> rfl) _ _

end Nearest
-- ==== Proof.Arrays.lean ====
/-
  What the two kernels leave in their output arrays, as functions of the arrays they are entered with.
-/
module

public import proofs.«01_k».proof.Proof.Entry
public import proofs.«01_k».proof.Proof.Out
public import Idealize.ShloMosaic.Lib.Pipeline.ValueKit

public section

open Idealize.ShloMosaic Idealize.ShloMosaic.TcCoe Cert.KernelIdeal Cert.KernelIdeal.Gen

namespace Nearest

variable (V : (c : Dev nD) → (b : Ref sig .tc) → Buf (Elt Ideal) ((c : Thread nD τ).loc b)) (c : Dev nD)

theorem idx0 : ∀ t : Fin cfg0.N, win0_0.index t = ![0, 0] ∧ win0_1.index t = ![0, 0] ∧ win0_2.index t = ![0, 0]
    ∧ win0_3.index t = ![0, 0] ∧ win0_4.index t = ![0, 0] := by decide +kernel

theorem block0_0 (t : Fin cfg0.N) : iblk0 V c 0 t = V c main_v0 := by
  funext y
  blk_ext [iblk0, (idx0 t).1]
theorem block0_1 (t : Fin cfg0.N) : iblk0 V c 1 t = V c main_v2 := by
  funext y
  blk_ext [iblk0, (idx0 t).2.1]
theorem block0_2 (t : Fin cfg0.N) : iblk0 V c 2 t = V c main_v6 := by
  funext y
  blk_ext [iblk0, (idx0 t).2.2.1]

theorem left0_3 : (dat0 V c).arrAt 3 cfg0.N = out0_3 (V c main_v0) (V c main_v2) (V c main_v6) := by
  refine (dat0 V c).arrAt_eq_of_covers 3 _ (by decide +kernel) fun t hf y => ?_
  blk_simp
  rw [after0_3, block0_0, block0_1, block0_2]
  blk_ext [(idx0 t).2.2.2.1]

theorem left0_4 : (dat0 V c).arrAt 4 cfg0.N = out0_4 (V c main_v0) (V c main_v2) (V c main_v6) := by
  refine (dat0 V c).arrAt_eq_of_covers 4 _ (by decide +kernel) fun t hf y => ?_
  blk_simp
  rw [after0_4, block0_0, block0_1, block0_2]
  generalize out0_4 (F := Ideal) (V c main_v0) (V c main_v2) (V c main_v6) = g
  refine congrArg g ?_
  blk_ext [(idx0 t).2.2.2.2]

theorem idx1 : ∀ t : Fin cfg1.N, win1_0.index t = ![t.val, 0] ∧ win1_1.index t = ![0, 0] ∧ win1_2.index t = ![0, 0]
    ∧ win1_3.index t = ![t.val, 0] := by decide +kernel

theorem block1_1 (t : Fin cfg1.N) : iblk1 V c 1 t = V c main_v9_1 := by
  funext y
  blk_ext [iblk1, (idx1 t).2.1]
theorem block1_2 (t : Fin cfg1.N) : iblk1 V c 2 t = V c main_v8 := by
  funext y
  blk_ext [iblk1, (idx1 t).2.2.1]
theorem block1_0 (t : Fin cfg1.N) (ht : t.val < 16) (a : Fin 64) (k : Fin 32) :
    iblk1 V c 0 t (ix2 a k) = (V c main_v9_0 : FVec Ideal S1024x32 .f32) (ix2 ⟨64 * t.val + a.val, by omega⟩ k) := by
  blk_ext [iblk1, (idx1 t).1]

theorem left1_3 (G : FVec Ideal S1024x10 .f32)
    (hG : ∀ (t : Fin cfg1.N) (ht : t.val < 16) (a : Fin 64) (l : Fin 10),
      answer (dists (F := Ideal) (iblk1 V c 0 t) (V c main_v9_1)) (V c main_v8) (ix2 a l) = G (ix2 ⟨64 * t.val + a.val, by omega⟩ l)) :
    (dat1 V c).arrAt 3 cfg1.N = G := by
  refine (dat1 V c).arrAt_eq_of_covers 3 _ (by decide +kernel) fun t hf y => ?_
  blk_simp
  rw [after1_3, outsAt1, out_eq, block1_1, block1_2]
  have ht : t.val < 16 := t.isLt
  have e : y = ix2 (y 0 : Fin 64) (y 1 : Fin 10) := by funext a; fin_cases a <;> rfl
  refine (congrArg _ e).trans ((hG t ht (y 0) (y 1)).trans (congrArg G ?_))
  blk_ext [(idx1 t).2.2.2]

end Nearest
-- ==== Proof.Ranks.lean ====
/-
  Selecting the smallest values of a finite set by repeated passes, stated over any bounded linear order: climbing from
  the bottom (`up`), descending from the top (`down`), and merging two descents (`down_four_union`). Nothing here
  mentions the kernel.
-/
module

public import Idealize.ShloMosaic.PureOps.Ideal.Laws

public section

namespace Nearest

variable {α : Type} [LinearOrder α] [BoundedOrder α]

/-- The least member of `s` above `m`, or the top. -/
@[expose] def nextUp (s : Finset α) (m : α) : α := (s.filter (m < ·)).inf id

/-- The greatest member of `s` below `b`, or the bottom. -/
@[expose] def nextDown (s : Finset α) (b : α) : α := (s.filter (· < b)).sup id

/-- The `k`-th smallest distinct member of `s` (counted from one; the bottom for zero). -/
@[expose] def up (s : Finset α) : Nat → α
  | 0 => ⊥
  | k + 1 => nextUp s (up s k)

/-- The greatest member of `s` below the top, then the next below it, and so on. -/
@[expose] def down (s : Finset α) : Nat → α
  | 0 => nextDown s ⊤
  | k + 1 => nextDown s (down s k)

theorem nextUp_le {s : Finset α} {m x : α} (hx : x ∈ s) (h : m < x) : nextUp s m ≤ x :=
  Finset.inf_le (f := id) (Finset.mem_filter.2 ⟨hx, h⟩)

theorem le_nextDown {s : Finset α} {b x : α} (hx : x ∈ s) (h : x < b) : x ≤ nextDown s b :=
  Finset.le_sup (f := id) (Finset.mem_filter.2 ⟨hx, h⟩)

theorem nextUp_mem {s : Finset α} {m : α} (h : nextUp s m ≠ ⊤) : nextUp s m ∈ s ∧ m < nextUp s m := by
  unfold nextUp at h ⊢
  rcases (s.filter (m < ·)).eq_empty_or_nonempty with he | hne
  · rw [he] at h; exact absurd Finset.inf_empty h
  · obtain ⟨x, hx, hxe⟩ := Finset.exists_mem_eq_inf _ hne (id : α → α)
    rw [hxe]; exact Finset.mem_filter.1 hx

theorem nextDown_mem {s : Finset α} {b : α} (h : nextDown s b ≠ ⊥) : nextDown s b ∈ s ∧ nextDown s b < b := by
  unfold nextDown at h ⊢
  rcases (s.filter (· < b)).eq_empty_or_nonempty with he | hne
  · rw [he] at h; exact absurd Finset.sup_empty h
  · obtain ⟨x, hx, hxe⟩ := Finset.exists_mem_eq_sup _ hne (id : α → α)
    rw [hxe]; exact Finset.mem_filter.1 hx

theorem nextDown_le_of {s : Finset α} {b c : α} (h : ∀ x ∈ s, x < b → x ≤ c) : nextDown s b ≤ c :=
  Finset.sup_le fun x hx => h x (Finset.mem_filter.1 hx).1 (Finset.mem_filter.1 hx).2

/-! ### Climbing -/

/-- As long as the climb has not run out, its `k`-th stop has at least `k` members at or below it. -/
theorem up_card (s : Finset α) : ∀ k, up s k ≠ ⊤ → k ≤ (s.filter (· ≤ up s k)).card
  | 0, _ => Nat.zero_le _
  | k + 1, h => by
    obtain ⟨hm, hlt⟩ := nextUp_mem (s := s) (m := up s k) h
    have ih := up_card s k (fun he => by rw [he] at hlt; exact absurd hlt not_top_lt)
    have hsub : insert (up s (k + 1)) (s.filter (· ≤ up s k)) ⊆ s.filter (· ≤ up s (k + 1)) := by
      intro x hx
      rcases Finset.mem_insert.1 hx with rfl | hx
      · exact Finset.mem_filter.2 ⟨hm, le_rfl⟩
      · exact Finset.mem_filter.2 ⟨(Finset.mem_filter.1 hx).1, (Finset.mem_filter.1 hx).2.trans hlt.le⟩
    have hn : up s (k + 1) ∉ s.filter (· ≤ up s k) := fun hx =>
      absurd (Finset.mem_filter.1 hx).2 (not_le.2 hlt)
    have := Finset.card_le_card hsub
    rw [Finset.card_insert_of_notMem hn] at this
    omega

/-- A value with fewer than `k` members below it is not above the `k`-th stop. -/
theorem le_up {s : Finset α} {v : α} {k : Nat} (h : (s.filter (· < v)).card < k) : v ≤ up s k := by
  by_contra hlt
  have hlt := not_le.1 hlt
  have := up_card s k (fun he => by rw [he] at hlt; exact absurd hlt not_top_lt)
  have hsub : s.filter (· ≤ up s k) ⊆ s.filter (· < v) := fun x hx =>
    Finset.mem_filter.2 ⟨(Finset.mem_filter.1 hx).1, (Finset.mem_filter.1 hx).2.trans_lt hlt⟩
  have := Finset.card_le_card hsub
  omega

/-- Away from the bottom, at most `k` members lie at or below the `k`-th stop. -/
theorem card_up (s : Finset α) (hs : ⊥ ∉ s) : ∀ k, (s.filter (· ≤ up s k)).card ≤ k ∨ up s k = ⊤
  | 0 => .inl (by
    have : s.filter (· ≤ up s 0) = ∅ := Finset.filter_eq_empty_iff.2 fun x hx h =>
      hs (by rwa [← le_bot_iff.1 (show x ≤ ⊥ from h)])
    rw [this]; simp)
  | k + 1 => by
    by_cases ht : up s (k + 1) = ⊤
    · exact .inr ht
    have hlt := (nextUp_mem (s := s) (m := up s k) ht).2
    rcases card_up s hs k with h | h
    · left
      have hsub : s.filter (· ≤ up s (k + 1)) ⊆ insert (up s (k + 1)) (s.filter (· ≤ up s k)) := by
        intro x hx
        obtain ⟨hx, hle⟩ := Finset.mem_filter.1 hx
        rcases hle.eq_or_lt with rfl | hl
        · exact Finset.mem_insert_self _ _
        · refine Finset.mem_insert_of_mem (Finset.mem_filter.2 ⟨hx, ?_⟩)
          by_contra hc
          exact absurd (nextUp_le hx (not_le.1 hc)) (not_le.2 hl)
      exact (Finset.card_le_card hsub).trans ((Finset.card_insert_le _ _).trans (Nat.succ_le_succ h))
    · rw [h] at hlt; exact absurd hlt not_top_lt

/-- A value with at least `k + 1` members at or below it is not below the `k + 1`-th stop. -/
theorem up_le {s : Finset α} (hs : ⊥ ∉ s) {w : α} {k : Nat} (h : k + 1 ≤ (s.filter (· ≤ w)).card) :
    up s (k + 1) ≤ w := by
  by_contra hlt
  have hlt := not_le.1 hlt
  have hsub : s.filter (· ≤ w) ⊆ s.filter (· ≤ up s k) := by
    intro x hx
    obtain ⟨hx, hle⟩ := Finset.mem_filter.1 hx
    refine Finset.mem_filter.2 ⟨hx, ?_⟩
    by_contra hc
    exact absurd (nextUp_le hx (not_le.1 hc)) (not_le.2 (hle.trans_lt hlt))
  have hc := Finset.card_le_card hsub
  rcases card_up s hs k with h' | h'
  · omega
  · have hne : (s.filter (· ≤ w)).Nonempty := Finset.card_pos.1 (by omega)
    obtain ⟨x, hx⟩ := hne
    have : up s (k + 1) = ⊤ := by
      show nextUp s (up s k) = ⊤
      unfold nextUp
      rw [h', Finset.filter_eq_empty_iff.2 (fun x _ => not_top_lt)]; exact Finset.inf_empty
    -- the climb passed the top before reaching `w`: then `w` has at most `k` members at or below it
    exact absurd h (by
      clear hsub hc hx
      have : ∀ j, j ≤ k → w < up s j → (s.filter (· ≤ w)).card ≤ j := by
        intro j
        induction j with
        | zero => intro _ hw; exact absurd hw not_lt_bot
        | succ j ih =>
          intro hj hw
          by_cases hwj : w < up s j
          · exact (ih (by omega) hwj).trans (Nat.le_succ j)
          · have hsub : s.filter (· ≤ w) ⊆ s.filter (· ≤ up s j) := by
              intro x hx
              obtain ⟨hx, hle⟩ := Finset.mem_filter.1 hx
              exact Finset.mem_filter.2 ⟨hx, by
                by_contra hc
                exact absurd (nextUp_le hx (not_le.1 hc)) (not_le.2 (hle.trans_lt hw))⟩
            rcases card_up s hs j with h | h
            · exact (Finset.card_le_card hsub).trans (h.trans (Nat.le_succ j))
            · exact absurd (h ▸ not_lt.1 hwj : ⊤ ≤ w) (fun hh => absurd hlt (not_lt.2 (le_top.trans hh)))
      have := this k le_rfl (by rw [h']; exact lt_of_lt_of_le hlt le_top)
      omega)

/-! ### Descending -/

theorem nextDown_union (A B : Finset α) (b : α) : nextDown (A ∪ B) b = nextDown A b ⊔ nextDown B b := by
  unfold nextDown; rw [Finset.filter_union, Finset.sup_union]

theorem nextDown_mono {A B : Finset α} (h : A ⊆ B) {b c : α} (hb : b ≤ c) : nextDown A b ≤ nextDown B c :=
  nextDown_le_of fun _ hx hl => le_nextDown (h hx) (hl.trans_le hb)

theorem nextDown_le (A : Finset α) (b : α) : nextDown A b ≤ b := nextDown_le_of fun _ _ hl => hl.le

theorem down_mono {A B : Finset α} (h : A ⊆ B) : ∀ k, down A k ≤ down B k
  | 0 => nextDown_mono h le_rfl
  | k + 1 => nextDown_mono h (down_mono h k)

theorem down_anti (A : Finset α) {j k : Nat} (h : j ≤ k) : down A k ≤ down A j := by
  induction h with
  | refl => exact le_rfl
  | step _ ih => exact (nextDown_le A _).trans ih

theorem down_mem {A : Finset α} {k : Nat} (h : down A k ≠ ⊥) : down A k ∈ A := by
  cases k with
  | zero => exact (nextDown_mem h).1
  | succ k => exact (nextDown_mem h).1

/-- The first four stops of a descent. -/
@[expose] def four (A : Finset α) : Finset α := {down A 0, down A 1, down A 2, down A 3}

theorem mem_four (A : Finset α) {k : Nat} (h : k < 4) : down A k ∈ four A := by
  unfold four
  interval_cases k <;> simp

theorem four_cases {A : Finset α} {x : α} (h : x ∈ four A) : ∃ k, k < 4 ∧ x = down A k := by
  unfold four at h
  simp only [Finset.mem_insert, Finset.mem_singleton] at h
  rcases h with h | h | h | h
  exacts [⟨0, by omega, h⟩, ⟨1, by omega, h⟩, ⟨2, by omega, h⟩, ⟨3, by omega, h⟩]

/-- Below a bound the fourth stop has passed, the four stops know the next member. -/
theorem nextDown_four {A : Finset α} {b : α} (h : down A 3 < b) : nextDown (four A) b = nextDown A b := by
  apply le_antisymm
  · refine nextDown_le_of fun x hx hl => ?_
    obtain ⟨k, _, rfl⟩ := four_cases hx
    by_cases hb : down A k = ⊥
    · rw [hb]; exact bot_le
    · exact le_nextDown (down_mem hb) hl
  · refine nextDown_le_of fun x hx hl => ?_
    have key : ∀ j, j < 4 → down A j < b → x ≤ nextDown (four A) b := by
      intro j
      induction j with
      | zero =>
        intro hj hjb
        exact (le_nextDown hx (hl.trans_le le_top)).trans (le_nextDown (mem_four A hj) hjb)
      | succ j ih =>
        intro hj hjb
        by_cases hc : down A j < b
        · exact ih (by omega) hc
        · exact (le_nextDown hx (hl.trans_le (not_lt.1 hc))).trans (le_nextDown (mem_four A hj) hjb)
    exact key 3 (by omega) h

/-- Four stops of each of two sets give the four stops of their union. -/
theorem down_four_union (A B : Finset α) : ∀ k, k < 4 → down (four A ∪ four B) k = down (A ∪ B) k := by
  have step : ∀ b, (down (A ∪ B) 3 < b ∨ b = ⊥) → nextDown (four A ∪ four B) b = nextDown (A ∪ B) b := by
    intro b hb
    rcases hb with hb | rfl
    · rw [nextDown_union, nextDown_union,
        nextDown_four ((down_mono Finset.subset_union_left 3).trans_lt hb),
        nextDown_four ((down_mono Finset.subset_union_right 3).trans_lt hb)]
    · unfold nextDown
      rw [Finset.filter_eq_empty_iff.2 (fun x _ => not_lt_bot), Finset.filter_eq_empty_iff.2 (fun x _ => not_lt_bot)]
  have strict : ∀ k, k < 3 → (down (A ∪ B) 3 < down (A ∪ B) k ∨ down (A ∪ B) k = ⊥) := by
    intro k hk
    by_cases hb : down (A ∪ B) k = ⊥
    · exact .inr hb
    left
    refine (down_anti (A ∪ B) (show k + 1 ≤ 3 by omega)).trans_lt ?_
    by_cases hc : down (A ∪ B) (k + 1) = ⊥
    · rw [hc]; exact bot_lt_iff_ne_bot.2 hb
    · exact (nextDown_mem (s := A ∪ B) (b := down (A ∪ B) k) hc).2
  intro k hk
  induction k with
  | zero =>
    refine step ⊤ ?_
    by_cases ht : (⊤ : α) = ⊥
    · exact .inr ht
    left
    refine (down_anti (A ∪ B) (Nat.zero_le 3)).trans_lt ?_
    by_cases hc : down (A ∪ B) 0 = ⊥
    · rw [hc]; exact bot_lt_iff_ne_bot.2 ht
    · exact (nextDown_mem (s := A ∪ B) (b := ⊤) hc).2
  | succ k ih =>
    show nextDown _ (down _ k) = nextDown _ (down _ k)
    rw [ih (by omega)]
    exact step _ (strict k (by omega))

/-- As long as the descent stays above `v`, its stop number `k` has at least `k + 1` members at or above it. -/
theorem down_card {A : Finset α} {v : α} : ∀ k, v < down A k → k + 1 ≤ (A.filter (down A k ≤ ·)).card
  | 0, h => by
    have hb : down A 0 ≠ ⊥ := fun he => by rw [he] at h; exact absurd h not_lt_bot
    exact Finset.card_pos.2 ⟨_, Finset.mem_filter.2 ⟨down_mem hb, le_rfl⟩⟩
  | k + 1, h => by
    have hb : down A (k + 1) ≠ ⊥ := fun he => by rw [he] at h; exact absurd h not_lt_bot
    have hlt := (nextDown_mem (s := A) (b := down A k) hb).2
    have ih := down_card (A := A) (v := v) k (h.trans hlt)
    have hsub : insert (down A (k + 1)) (A.filter (down A k ≤ ·)) ⊆ A.filter (down A (k + 1) ≤ ·) := by
      intro x hx
      rcases Finset.mem_insert.1 hx with rfl | hx
      · exact Finset.mem_filter.2 ⟨down_mem hb, le_rfl⟩
      · exact Finset.mem_filter.2 ⟨(Finset.mem_filter.1 hx).1, hlt.le.trans (Finset.mem_filter.1 hx).2⟩
    have hn : down A (k + 1) ∉ A.filter (down A k ≤ ·) := fun hx =>
      absurd (Finset.mem_filter.1 hx).2 (not_le.2 hlt)
    have := Finset.card_le_card hsub
    rw [Finset.card_insert_of_notMem hn] at this
    omega

/-- A member of `A` below the top with at most three members above it is one of the first four stops, the earlier
    stops being above it. -/
theorem down_hits {A : Finset α} {v : α} (hv : v ∈ A) (ht : v < ⊤) (hc : (A.filter (v < ·)).card ≤ 3) :
    ∃ j, j < 4 ∧ down A j = v ∧ ∀ k, k < j → v < down A k := by
  by_contra hno
  have all : ∀ k, k < 4 → v < down A k := by
    intro k
    induction k using Nat.strong_induction_on with
    | _ k ih =>
      intro hk
      have hge : v ≤ down A k := by
        cases k with
        | zero => exact le_nextDown hv ht
        | succ k => exact le_nextDown hv (ih k (by omega) (by omega))
      rcases hge.eq_or_lt with he | hl
      · exact absurd ⟨k, hk, he.symm, fun i hi => ih i hi (by omega)⟩ hno
      · exact hl
  have h3 := down_card (A := A) (v := v) 3 (all 3 (by omega))
  have := Finset.card_le_card (show A.filter (down A 3 ≤ ·) ⊆ A.filter (v < ·) from fun x hx =>
    Finset.mem_filter.2 ⟨(Finset.mem_filter.1 hx).1, (all 3 (by omega)).trans_le (Finset.mem_filter.1 hx).2⟩)
  omega

end Nearest
-- ==== Proof.Row.lean ====
/-
  One query's row of distances, and the kernel's way of finding the fifteen nearest in it: group minima, fifteen climbs
  over them to a threshold, four descents below the threshold, three counts, one tie broken by the first index. The
  main theorem says that the rows selected are the fifteen first of the sorted order.
-/
module

public import proofs.«01_k».proof.Proof.Ranks

public section

namespace Nearest

/-- The group (lane) a padded row belongs to. -/
@[expose] def lane (i : Fin 50176) : Fin 1792 := ⟨i.val % 1792, Nat.mod_lt _ (by norm_num)⟩

/-- The least distance of a group. -/
@[expose] noncomputable def laneMin (c : Fin 50176 → EReal) (g : Fin 1792) : EReal :=
  (Finset.univ.filter (fun i => lane i = g)).inf c

/-- The threshold: fifteen climbs over the group minima. -/
@[expose] noncomputable def threshold (c : Fin 50176 → EReal) : EReal := up (Finset.univ.image (laneMin c)) 15

/-- The distances at or below the threshold, the others sunk to the bottom. -/
@[expose] noncomputable def kept (c : Fin 50176 → EReal) (i : Fin 50176) : EReal := if c i ≤ threshold c then c i else ⊥

/-- The `k`-th of the greatest kept distances. -/
@[expose] noncomputable def top (c : Fin 50176 → EReal) (k : Nat) : EReal := down (Finset.univ.image (kept c)) k

/-- How many distances are below `t`. -/
@[expose] noncomputable def below (c : Fin 50176 → EReal) (t : EReal) : Nat := (Finset.univ.filter (fun i => c i < t)).card

/-- The greatest kept distance with fewer than fifteen distances below it. -/
@[expose] noncomputable def bound (c : Fin 50176 → EReal) : EReal :=
  if below c (top c 0) < 15 then top c 0 else
    if below c (top c 1) < 15 then top c 1 else
      if below c (top c 2) < 15 then top c 2 else top c 3

/-- The first index at which the distance is the bound. -/
@[expose] noncomputable def firstAt (c : Fin 50176 → EReal) (v : EReal) : EReal :=
  (Finset.univ : Finset (Fin 50176)).inf fun i => if c i = v then ((i.val : ℝ) : EReal) else ⊤

/-- What the kernel selects. -/
@[expose] def Picked (c : Fin 50176 → EReal) (i : Fin 50176) : Prop :=
  c i < bound c ∨ c i = bound c ∧ ((i.val : ℝ) : EReal) ≤ firstAt c (bound c)

/-- `e` lists the eighteen first rows in the order of distance, then of index; the fourteenth and the fifteenth are
    apart, and at least fifteen of the eighteen are each the first of its value and of its group. -/
structure Ranked (c : Fin 50176 → EReal) (e : Fin 18 → Fin 50176) : Prop where
  lex : ∀ a b, a < b → c (e a) < c (e b) ∨ c (e a) = c (e b) ∧ e a < e b
  rest : ∀ i, (∀ a, e a ≠ i) → ∀ a, c (e a) < c i ∨ c (e a) = c i ∧ e a < i
  gap : c (e 13) < c (e 14)
  fresh : 15 ≤ (Finset.univ.filter fun a : Fin 18 =>
    ∀ b, b < a → c (e b) ≠ c (e a) ∧ lane (e b) ≠ lane (e a)).card
  low : ∀ i, ⊥ < c i
  high : c (e 14) < ⊤

namespace Ranked

variable {c : Fin 50176 → EReal} {e : Fin 18 → Fin 50176}

theorem mono (h : Ranked c e) {a b : Fin 18} (hab : a ≤ b) : c (e a) ≤ c (e b) := by
  rcases hab.eq_or_lt with rfl | hl
  · exact le_rfl
  · rcases h.lex a b hl with h | h
    exacts [h.le, h.1.le]

theorem inj (h : Ranked c e) : Function.Injective e := by
  have key : ∀ a b, a < b → e a ≠ e b := fun a b hl he => by
    rcases h.lex a b hl with h | h
    · rw [he] at h; exact absurd h (lt_irrefl _)
    · rw [he] at h; exact absurd h.2 (lt_irrefl _)
  intro a b he
  rcases lt_trichotomy a b with hl | hl | hl
  exacts [absurd he (key a b hl), hl, absurd he.symm (key b a hl)]

theorem le_rest (h : Ranked c e) {i : Fin 50176} (hi : ∀ a, e a ≠ i) (a : Fin 18) : c (e a) ≤ c i := by
  rcases h.rest i hi a with h | h
  exacts [h.le, h.1.le]

/-- The rows nearer than the fifteenth are the fourteen before it. -/
theorem lt_iff (h : Ranked c e) (i : Fin 50176) : c i < c (e 14) ↔ ∃ a : Fin 18, a < 14 ∧ e a = i := by
  constructor
  · intro hl
    by_contra hno
    by_cases hr : ∃ a, e a = i
    · obtain ⟨a, rfl⟩ := hr
      have ha : ¬ a < 14 := fun ha => hno ⟨a, ha, rfl⟩
      exact absurd hl (not_lt.2 (h.mono (not_lt.1 ha)))
    · exact absurd hl (not_lt.2 (h.le_rest (fun a ha => hr ⟨a, ha⟩) 14))
  · rintro ⟨a, ha, rfl⟩
    have : a ≤ 13 := by rw [Fin.le_def]; rw [Fin.lt_def] at ha; exact Nat.le_of_lt_succ ha
    exact (h.mono this).trans_lt h.gap

theorem below_eq (h : Ranked c e) : below c (c (e 14)) = 14 := by
  have : (Finset.univ.filter (fun i => c i < c (e 14))) = (Finset.univ.filter (fun a : Fin 18 => a < 14)).image e := by
    ext i
    simp only [Finset.mem_filter, Finset.mem_univ, true_and, Finset.mem_image]
    exact h.lt_iff i
  unfold below
  rw [this, Finset.card_image_of_injective _ h.inj]
  decide

theorem below_ge (h : Ranked c e) {t : EReal} (ht : c (e 14) < t) : 15 ≤ below c t := by
  have hsub : (Finset.univ.filter (fun a : Fin 18 => a ≤ 14)).image e ⊆ Finset.univ.filter (fun i => c i < t) := by
    intro i hi
    obtain ⟨a, ha, rfl⟩ := Finset.mem_image.1 hi
    exact Finset.mem_filter.2 ⟨Finset.mem_univ _, (h.mono (Finset.mem_filter.1 ha).2).trans_lt ht⟩
  have := Finset.card_le_card hsub
  rw [Finset.card_image_of_injective _ h.inj] at this
  exact le_trans (by decide) this

theorem laneMin_bot (h : Ranked c e) : ⊥ ∉ Finset.univ.image (laneMin c) := by
  intro hm
  obtain ⟨g, _, hg⟩ := Finset.mem_image.1 hm
  have hne : (Finset.univ.filter (fun i => lane i = g)).Nonempty :=
    ⟨⟨g.val, lt_trans g.isLt (by norm_num)⟩, Finset.mem_filter.2 ⟨Finset.mem_univ _,
      Fin.ext (Nat.mod_eq_of_lt g.isLt)⟩⟩
  obtain ⟨i, _, hi⟩ := Finset.exists_mem_eq_inf _ hne c
  unfold laneMin at hg
  rw [hi] at hg
  exact absurd hg (h.low i).ne'

/-- A fresh row's distance is its group's least. -/
theorem laneMin_fresh (h : Ranked c e) {a : Fin 18} (ha : ∀ b, b < a → lane (e b) ≠ lane (e a)) :
    laneMin c (lane (e a)) = c (e a) := by
  apply le_antisymm
  · exact Finset.inf_le (f := c) (Finset.mem_filter.2 ⟨Finset.mem_univ _, rfl⟩)
  · refine Finset.le_inf fun i hi => ?_
    have hi := (Finset.mem_filter.1 hi).2
    by_cases hr : ∃ b, e b = i
    · obtain ⟨b, rfl⟩ := hr
      exact h.mono (not_lt.1 fun hb => ha b hb hi)
    · exact h.le_rest (fun b hb => hr ⟨b, hb⟩) a

theorem threshold_le (h : Ranked c e) : threshold c ≤ c (e 17) := by
  refine up_le (k := 14) h.laneMin_bot ?_
  refine h.fresh.trans ?_
  refine Finset.card_le_card_of_injOn (fun a => c (e a)) ?_ ?_
  · intro a ha
    have ha := (Finset.mem_filter.1 ha).2
    refine Finset.mem_coe.2 (Finset.mem_filter.2 ⟨?_, h.mono (Fin.le_last a)⟩)
    exact Finset.mem_image.2 ⟨lane (e a), Finset.mem_univ _, h.laneMin_fresh fun b hb => (ha b hb).2⟩
  · intro a ha b hb hab
    have ha := (Finset.mem_filter.1 ha).2
    have hb := (Finset.mem_filter.1 hb).2
    rcases lt_trichotomy a b with hl | hl | hl
    · exact absurd hab (hb a hl).1
    · exact hl
    · exact absurd hab.symm (ha b hl).1

theorem le_threshold (h : Ranked c e) : c (e 14) ≤ threshold c := by
  refine le_up ?_
  have hsub : (Finset.univ.image (laneMin c)).filter (· < c (e 14)) ⊆
      (Finset.univ.filter (fun i => c i < c (e 14))).image c := by
    intro x hx
    obtain ⟨hx, hl⟩ := Finset.mem_filter.1 hx
    obtain ⟨g, _, rfl⟩ := Finset.mem_image.1 hx
    have hne : (Finset.univ.filter (fun i => lane i = g)).Nonempty :=
      ⟨⟨g.val, lt_trans g.isLt (by norm_num)⟩, Finset.mem_filter.2 ⟨Finset.mem_univ _,
        Fin.ext (Nat.mod_eq_of_lt g.isLt)⟩⟩
    obtain ⟨i, _, hi⟩ := Finset.exists_mem_eq_inf _ hne c
    unfold laneMin at hl ⊢
    rw [hi] at hl ⊢
    exact Finset.mem_image.2 ⟨i, Finset.mem_filter.2 ⟨Finset.mem_univ _, hl⟩, rfl⟩
  have h1 := Finset.card_le_card hsub
  have h2 := Finset.card_image_le (s := Finset.univ.filter (fun i => c i < c (e 14))) (f := c)
  have h3 := h.below_eq
  unfold below at h3
  omega

theorem bound_eq (h : Ranked c e) : bound c = c (e 14) := by
  have hmem : c (e 14) ∈ Finset.univ.image (kept c) :=
    Finset.mem_image.2 ⟨e 14, Finset.mem_univ _, by unfold kept; exact if_pos h.le_threshold⟩
  have hcard : ((Finset.univ.image (kept c)).filter (c (e 14) < ·)).card ≤ 3 := by
    have hsub : (Finset.univ.image (kept c)).filter (c (e 14) < ·) ⊆ {c (e 15), c (e 16), c (e 17)} := by
      intro x hx
      obtain ⟨hx, hl⟩ := Finset.mem_filter.1 hx
      obtain ⟨i, _, rfl⟩ := Finset.mem_image.1 hx
      unfold kept at hl ⊢
      by_cases ht : c i ≤ threshold c
      · rw [if_pos ht] at hl ⊢
        by_cases hr : ∃ a, e a = i
        · obtain ⟨a, rfl⟩ := hr
          have ha : ¬ a ≤ 14 := fun ha => absurd hl (not_lt.2 (h.mono ha))
          have hcase : ∀ b : Fin 18, ¬ b ≤ 14 → b = 15 ∨ b = 16 ∨ b = 17 := by decide
          rcases hcase a ha with rfl | rfl | rfl <;> simp
        · have := le_antisymm (ht.trans h.threshold_le) (h.le_rest (fun a ha => hr ⟨a, ha⟩) 17)
          simp [this]
      · rw [if_neg ht] at hl
        exact absurd hl not_lt_bot
    exact (Finset.card_le_card hsub).trans Finset.card_le_three
  obtain ⟨j, hj, hje, hjl⟩ := down_hits hmem h.high hcard
  have hlt : below c (top c j) < 15 := by unfold top; rw [hje, h.below_eq]; norm_num
  have hge : ∀ k, k < j → ¬ below c (top c k) < 15 := fun k hk => not_lt.2 (h.below_ge (hjl k hk))
  unfold bound
  interval_cases j
  · rw [if_pos hlt]; exact hje
  · rw [if_neg (hge 0 (by omega)), if_pos hlt]; exact hje
  · rw [if_neg (hge 0 (by omega)), if_neg (hge 1 (by omega)), if_pos hlt]; exact hje
  · rw [if_neg (hge 0 (by omega)), if_neg (hge 1 (by omega)), if_neg (hge 2 (by omega))]; exact hje

/-- The first row at the fifteenth's distance is the fifteenth. -/
theorem first_le (h : Ranked c e) {i : Fin 50176} (hi : c i = c (e 14)) : e 14 ≤ i := by
  by_cases hr : ∃ a, e a = i
  · obtain ⟨a, rfl⟩ := hr
    rcases lt_trichotomy a 14 with hl | rfl | hl
    · exact absurd hi ((h.lt_iff _).2 ⟨a, hl, rfl⟩).ne
    · exact le_rfl
    · rcases h.lex 14 a hl with h | h
      · exact absurd hi h.ne'
      · exact h.2.le
  · rcases h.rest i (fun a ha => hr ⟨a, ha⟩) 14 with h | h
    · exact absurd hi h.ne'
    · exact h.2.le

theorem firstAt_eq (h : Ranked c e) : firstAt c (bound c) = (((e 14).val : ℝ) : EReal) := by
  rw [h.bound_eq]
  unfold firstAt
  apply le_antisymm
  · refine (Finset.inf_le (Finset.mem_univ (e 14))).trans ?_
    rw [if_pos rfl]
  · refine Finset.le_inf fun i _ => ?_
    by_cases hi : c i = c (e 14)
    · rw [if_pos hi]
      exact EReal.coe_le_coe_iff.2 (Nat.cast_le.2 (h.first_le hi))
    · rw [if_neg hi]; exact le_top

/-- The rows selected are the fifteen first. -/
theorem picked_iff (h : Ranked c e) (i : Fin 50176) : Picked c i ↔ ∃ a : Fin 18, a ≤ 14 ∧ e a = i := by
  unfold Picked
  rw [h.firstAt_eq, h.bound_eq, h.lt_iff]
  constructor
  · rintro (⟨a, ha, rfl⟩ | ⟨he, hle⟩)
    · exact ⟨a, ha.le, rfl⟩
    · exact ⟨14, le_rfl, le_antisymm (h.first_le he) (Nat.cast_le.1 (EReal.coe_le_coe_iff.1 hle))⟩
  · rintro ⟨a, ha, rfl⟩
    rcases ha.eq_or_lt with rfl | hl
    · exact .inr ⟨rfl, le_rfl⟩
    · exact .inl ⟨a, hl, rfl⟩

open Classical in
/-- A sum over the selected rows is the sum over the fifteen first. -/
theorem sum_picked (h : Ranked c e) (f : Fin 50176 → EReal) :
    (∑ i, if Picked c i then f i else 0) = ∑ r : Fin 15, f (e (Fin.castLE (by norm_num) r)) := by
  rw [← Finset.sum_filter]
  have : Finset.univ.filter (fun i => Picked c i) =
      (Finset.univ : Finset (Fin 15)).image (fun r => e (Fin.castLE (by norm_num) r)) := by
    ext i
    simp only [Finset.mem_filter, Finset.mem_univ, true_and, Finset.mem_image]
    rw [h.picked_iff]
    constructor
    · rintro ⟨a, ha, rfl⟩
      have ha : a.val ≤ 14 := ha
      exact ⟨⟨a.val, by omega⟩, rfl⟩
    · rintro ⟨r, rfl⟩
      refine ⟨_, ?_, rfl⟩
      show r.val ≤ 14
      omega
  rw [this, Finset.sum_image]
  intro a _ b _ hab
  exact Fin.castLE_injective _ (h.inj hab)

end Ranked

end Nearest
-- ==== Proof.Read.lean ====
/-
  The steps of the second kernel body read at an index over the extended reals, row by row.
-/
module

public import proofs.«01_k».proof.Proof.Out
public import proofs.«01_k».proof.Proof.Row
public import Idealize.ShloMosaic.Lib.Pointwise
public import Idealize.ShloMosaic.Lib.ValueIdx

public section

open Idealize.ShloMosaic Cert.KernelIdeal Cert.KernelIdeal.Gen

namespace Nearest

/-- The word of +∞ denotes the top. -/
theorem inf_word : Ideal.ofBits .f32 2139095040#32 = ⊤ := by simp [Ideal.ofBits, Ideal.ieee]

/-- The word of −∞ denotes the bottom. -/
theorem neg_inf_word : Ideal.ofBits .f32 4286578688#32 = ⊥ := by simp [Ideal.ofBits, Ideal.ieee]

theorem fifteen_word : Ideal.ofBits .f32 0x41700000#32 = ((15 : ℕ) : EReal) := by
  rw [show ((15 : ℕ) : EReal) = ((15 : ℝ) : EReal) by rfl]
  simp [Ideal.ofBits, Ideal.ieee]
  norm_cast
  norm_num

theorem high_eq : (high : Ideal .f32) = ⊤ := inf_word

theorem low_eq : (low : Ideal .f32) = ⊥ := by
  change Ideal.ofBits .f32 0x00000000#32 - Ideal.ofBits .f32 0x7F800000#32 = ⊥
  rw [show Ideal.ofBits .f32 0x7F800000#32 = ⊤ from inf_word, Ideal.ofBits_zero_f32]
  rfl

/-- The least of the values satisfying `P`, the others raised to the top. -/
theorem inf_ite {ι : Type*} [Fintype ι] (f : ι → EReal) (P : EReal → Prop) [DecidablePred P] :
    (Finset.univ.inf fun x => if P (f x) then f x else ⊤) = ((Finset.univ.image f).filter P).inf id := by
  apply le_antisymm
  · refine Finset.le_inf fun y hy => ?_
    obtain ⟨hy, hP⟩ := Finset.mem_filter.1 hy
    obtain ⟨x, -, rfl⟩ := Finset.mem_image.1 hy
    exact (Finset.inf_le (Finset.mem_univ x)).trans (by rw [if_pos hP]; rfl)
  · refine Finset.le_inf fun x _ => ?_
    by_cases hP : P (f x)
    · rw [if_pos hP]
      exact Finset.inf_le (f := id) (Finset.mem_filter.2 ⟨Finset.mem_image_of_mem f (Finset.mem_univ x), hP⟩)
    · rw [if_neg hP]; exact le_top

/-- The greatest of the values satisfying `P`, the others sunk to the bottom. -/
theorem sup_ite {ι : Type*} [Fintype ι] (f : ι → EReal) (P : EReal → Prop) [DecidablePred P] :
    (Finset.univ.sup fun x => if P (f x) then f x else ⊥) = ((Finset.univ.image f).filter P).sup id := by
  apply le_antisymm
  · refine Finset.sup_le fun x _ => ?_
    by_cases hP : P (f x)
    · rw [if_pos hP]
      exact Finset.le_sup (f := id) (Finset.mem_filter.2 ⟨Finset.mem_image_of_mem f (Finset.mem_univ x), hP⟩)
    · rw [if_neg hP]; exact bot_le
  · refine Finset.sup_le fun y hy => ?_
    obtain ⟨hy, hP⟩ := Finset.mem_filter.1 hy
    obtain ⟨x, -, rfl⟩ := Finset.mem_image.1 hy
    exact (by rw [if_pos hP]; rfl : id (f x) ≤ if P (f x) then f x else ⊥).trans
      (Finset.le_sup (f := fun x => if P (f x) then f x else ⊥) (Finset.mem_univ x))

theorem climb_apply (g : FVec Ideal S64x1792 .f32) (m : FVec Ideal S64x1 .f32) (q : Fin 64) :
    climb g m (ix2 q 0) = nextUp (Finset.univ.image fun x : Fin 1792 => g (ix2 q x)) (m (ix2 q 0)) := by
  unfold climb nextUp
  rw [← inf_ite (fun x : Fin 1792 => g (ix2 q x)) (fun y => m (ix2 q 0) < y)]
  pointwise
  rw [inf_word, high_eq]
  rfl

theorem fallBelow_apply (v b : FVec Ideal S64x12544 .f32) (q : Fin 64) (t : EReal) (hb : ∀ x, b (ix2 q x) = t) :
    fallBelow v b (ix2 q 0) = nextDown (Finset.univ.image fun x : Fin 12544 => v (ix2 q x)) t := by
  unfold fallBelow nextDown
  rw [← sup_ite (fun x : Fin 12544 => v (ix2 q x)) (fun y => y < t)]
  pointwise
  rw [neg_inf_word, low_eq]
  simp only [hb]
  rfl

theorem fallBelow8_apply (v b : FVec Ideal S64x8 .f32) (q : Fin 64) (t : EReal) (hb : ∀ x, b (ix2 q x) = t) :
    fallBelow8 v b (ix2 q 0) = nextDown (Finset.univ.image fun x : Fin 8 => v (ix2 q x)) t := by
  unfold fallBelow8 nextDown
  rw [← sup_ite (fun x : Fin 8 => v (ix2 q x)) (fun y => y < t)]
  pointwise
  rw [neg_inf_word, low_eq]
  simp only [hb]
  rfl

/-- The stops of a chunk's descent are those of the set of its values. -/
theorem fall_apply (v : FVec Ideal S64x12544 .f32) (q : Fin 64) (k : Nat) :
    fall v k (ix2 q 0) = down (Finset.univ.image fun x : Fin 12544 => v (ix2 q x)) k := by
  induction k with
  | zero => exact fallBelow_apply _ _ _ _ fun x => high_eq
  | succ k ih =>
    refine (fallBelow_apply _ _ _ (fall v k (ix2 q 0)) fun x => ?_).trans (by rw [ih]; rfl)
    pointwise

theorem fall8_apply (v : FVec Ideal S64x8 .f32) (q : Fin 64) (k : Nat) :
    fall8 v k (ix2 q 0) = down (Finset.univ.image fun x : Fin 8 => v (ix2 q x)) k := by
  induction k with
  | zero => exact fallBelow8_apply _ _ _ _ fun x => high_eq
  | succ k ih =>
    refine (fallBelow8_apply _ _ _ (fall8 v k (ix2 q 0)) fun x => ?_).trans (by rw [ih]; rfl)
    pointwise

theorem keep_apply (t : FVec Ideal S64x1 .f32) (v : FVec Ideal S64x12544 .f32) (q : Fin 64) (x : Fin 12544) :
    keep t v (ix2 q x) = if v (ix2 q x) ≤ t (ix2 q 0) then v (ix2 q x) else ⊥ := by
  unfold keep
  pointwise
  rw [low_eq]

/-- The values of eight joined columns in a row. -/
theorem join_image (a b : Nat → FVec Ideal S64x1 .f32) (q : Fin 64) :
    (Finset.univ.image fun k : Fin 8 => join a b (ix2 q k))
      = {a 0 (ix2 q 0), a 1 (ix2 q 0), a 2 (ix2 q 0), a 3 (ix2 q 0)}
        ∪ {b 0 (ix2 q 0), b 1 (ix2 q 0), b 2 (ix2 q 0), b 3 (ix2 q 0)} := by
  have h : ∀ k : Fin 8, join a b (ix2 q k) = ![a 0 (ix2 q 0), a 1 (ix2 q 0), a 2 (ix2 q 0), a 3 (ix2 q 0),
      b 0 (ix2 q 0), b 1 (ix2 q 0), b 2 (ix2 q 0), b 3 (ix2 q 0)] k := by
    intro k
    unfold join
    pointwise
    fin_cases k <;> rfl
  simp only [h]
  rw [show (Finset.univ : Finset (Fin 8)) = {0, 1, 2, 3, 4, 5, 6, 7} by decide]
  simp only [Finset.image_insert, Finset.image_singleton]
  ext y
  simp only [Finset.mem_insert, Finset.mem_singleton, Finset.mem_union]
  simp
  tauto

theorem count_apply (v : FVec Ideal S64x12544 .f32) (t : FVec Ideal S64x1 .f32) (q : Fin 64) :
    count v t (ix2 q 0) = ((Finset.univ.filter fun x : Fin 12544 => v (ix2 q x) < t (ix2 q 0)).card : EReal) := by
  unfold count
  rw [Finset.card_filter, Nat.cast_sum]
  pointwise
  refine Finset.sum_congr rfl fun x _ => ?_
  split_ifs <;> simp

theorem ifFew_apply (n t e : FVec Ideal S64x1 .f32) (q : Fin 64) (k : ℕ) (hn : n (ix2 q 0) = (k : EReal)) :
    ifFew n t e (ix2 q 0) = if k < 15 then t (ix2 q 0) else e (ix2 q 0) := by
  unfold ifFew
  pointwise
  rw [hn, show Ideal.ofBits .f32 1097859072#32 = ((15 : ℕ) : EReal) from fifteen_word]
  simp only [EReal.natCast_lt_iff]

theorem word_12544 : Ideal.ofBits .f32 0x46440000#32 = ((12544 : ℝ) : EReal) := by
  simp [Ideal.ofBits, Ideal.ieee]
  norm_cast
  norm_num

theorem word_25088 : Ideal.ofBits .f32 0x46C40000#32 = ((25088 : ℝ) : EReal) := by
  simp [Ideal.ofBits, Ideal.ieee]
  norm_cast
  norm_num

theorem word_37632 : Ideal.ofBits .f32 0x47130000#32 = ((37632 : ℝ) : EReal) := by
  simp [Ideal.ofBits, Ideal.ieee]
  norm_cast
  norm_num

theorem word_0 : Ideal.ofBits .f32 0x00000000#32 = ((0 : ℝ) : EReal) := by
  rw [Ideal.ofBits_zero_f32]; rfl

theorem places_apply (k : BitVec 32) (r : ℝ) (hk : Ideal.ofBits .f32 k = (r : EReal)) (q : Fin 64) (x : Fin 12544) :
    places (F := Ideal) k (ix2 q x) = (((x.val : ℝ) + r : ℝ) : EReal) := by
  unfold places
  pointwise
  rw [hk]
  have : ((BitVec.ofNat 32 x.val).toInt : ℝ) = (x.val : ℝ) := by
    have hx := x.isLt
    have hn : (BitVec.ofNat 32 x.val).toNat = x.val := by
      rw [BitVec.toNat_ofNat]; exact Nat.mod_eq_of_lt (by omega)
    rw [BitVec.toInt_eq_toNat_of_lt (by rw [hn]; omega), hn]
    rfl
  change ((((BitVec.ofNat 32 x.val).toInt : ℝ) : EReal)) + _ = _
  rw [this, EReal.coe_add]

theorem firstIn_apply (v : FVec Ideal S64x12544 .f32) (k : BitVec 32) (r : ℝ) (hk : Ideal.ofBits .f32 k = (r : EReal))
    (t : FVec Ideal S64x1 .f32) (q : Fin 64) :
    firstIn v k t (ix2 q 0)
      = (Finset.univ : Finset (Fin 12544)).inf fun x =>
          if v (ix2 q x) = t (ix2 q 0) then (((x.val : ℝ) + r : ℝ) : EReal) else ⊤ := by
  simp only [← places_apply k r hk q]
  unfold firstIn
  generalize places (F := Ideal) k = p
  pointwise
  rw [inf_word, high_eq]
  rfl

open Classical in
theorem weigh_apply (v : FVec Ideal S64x12544 .f32) (k : BitVec 32) (r : ℝ) (hk : Ideal.ofBits .f32 k = (r : EReal))
    (t e : FVec Ideal S64x1 .f32) (l : FVec Ideal S12544x16 .bf16) (q : Fin 64) (j : Fin 16) :
    weigh v k t e l (ix2 q j)
      = ∑ x : Fin 12544, if v (ix2 q x) < t (ix2 q 0) ∨ v (ix2 q x) = t (ix2 q 0) ∧ (((x.val : ℝ) + r : ℝ) : EReal) ≤ e (ix2 q 0)
          then Ideal.exp (-(v (ix2 q x))) * l (ix2 x j) else 0 := by
  simp only [← places_apply k r hk q]
  unfold weigh pick
  generalize places (F := Ideal) k = p
  pointwise
  refine Finset.sum_congr rfl fun x _ => ?_
  rw [zero_sub]
  by_cases h1 : v (ix2 q x) < t (ix2 q 0) <;> by_cases h2 : v (ix2 q x) = t (ix2 q 0) <;>
    by_cases h3 : p (ix2 q x) ≤ e (ix2 q 0) <;> simp [h1, h2, h3, Scalar.select, IntOp.ori, IntOp.andi]

theorem strip_apply (d : FVec Ideal S64x50176 .f32) (o : Nat)
    (h : ∀ a, (![0, o] : Fin 2 → Nat) a + S64x1792.size a ≤ S64x50176.size a) (q : Fin 64) (j : Fin 1792)
    (hj : o + j.val < 50176) :
    strip d o h (ix2 q j) = d (ix2 q ⟨o + j.val, hj⟩) := by
  unfold strip
  pointwise

theorem chunkOf_apply (d : FVec Ideal S64x50176 .f32) (o : Nat)
    (h : ∀ a, (![0, o] : Fin 2 → Nat) a + S64x12544.size a ≤ S64x50176.size a) (q : Fin 64) (j : Fin 12544)
    (hj : o + j.val < 50176) :
    chunkOf d o h (ix2 q j) = d (ix2 q ⟨o + j.val, hj⟩) := by
  unfold chunkOf
  pointwise

theorem labelRows_apply (l : FVec Ideal S50176x16 .bf16) (o : Nat)
    (h : ∀ a, (![o, 0] : Fin 2 → Nat) a + S12544x16.size a ≤ S50176x16.size a) (x : Fin 12544) (j : Fin 16)
    (hx : o + x.val < 50176) :
    labelRows l o h (ix2 x j) = l (ix2 ⟨o + x.val, hx⟩ j) := by
  unfold labelRows
  pointwise

end Nearest
-- ==== Proof.DistRead.lean ====
/-
  The second kernel's distances read at an index.
-/
module

public import proofs.«01_k».proof.Proof.Read
public import proofs.«01_k».proof.Proof.Query

public section

open Idealize.ShloMosaic Cert.KernelIdeal Cert.KernelIdeal.Gen

namespace Nearest

variable (x0 : FVec Ideal S64x32 .f32) (x1 : FVec Ideal S32x50176 .f32) (q : Fin 64) (i : Fin 50176)

theorem prods_apply : prods (F := Ideal) x0 x1 (ix2 q i)
    = ∑ k : Fin 30, x0 (ix2 q ⟨k.val, by omega⟩) * x1 (ix2 ⟨k.val, by omega⟩ i) := by
  unfold prods k1_pay1
  pointwise
  trace_state

theorem norms_apply : norms (F := Ideal) x0 x1 (ix2 q i) = x1 (ix2 30 i) + x0 (ix2 q 31) := by
  unfold norms k1_pay2
  pointwise
  trace_state

theorem dists_apply : dists (F := Ideal) x0 x1 (ix2 q i)
    = Ideal.sqrt (max (x1 (ix2 30 i) + x0 (ix2 q 31)
        + ∑ k : Fin 30, x0 (ix2 q ⟨k.val, by omega⟩) * x1 (ix2 ⟨k.val, by omega⟩ i)) floor2) := by
  rw [← prods_apply, ← norms_apply]
  unfold dists floor2
  generalize prods (F := Ideal) x0 x1 = u
  generalize norms (F := Ideal) x0 x1 = v
  pointwise

end Nearest
-- ==== Proof.Rowwise.lean ====
/-
  The second kernel body's block of results, row by row: the logarithm of the picked rows' weighted labels.
-/
module

public import proofs.«01_k».proof.Proof.Read

public section

open Idealize.ShloMosaic Cert.KernelIdeal Cert.KernelIdeal.Gen

namespace Nearest

/-- The place of a chunk's column in the whole row. -/
@[expose] def part (a : Fin 4) (x : Fin 12544) : Fin 50176 := ⟨12544 * a.val + x.val, by omega⟩

/-- Chunk and column against the place. -/
@[expose] def parts : Fin 4 × Fin 12544 ≃ Fin 50176 where
  toFun p := part p.1 p.2
  invFun i := (⟨i.val / 12544, by omega⟩, ⟨i.val % 12544, by omega⟩)
  left_inv p := by
    obtain ⟨a, x⟩ := p
    simp only [part, Prod.mk.injEq, Fin.ext_iff]
    omega
  right_inv i := by
    simp only [part, Fin.ext_iff]
    omega

theorem exists_part (i : Fin 50176) : ∃ a x, part a x = i :=
  ⟨(parts.symm i).1, (parts.symm i).2, parts.apply_symm_apply i⟩

/-- A sum over a row, chunk by chunk. -/
theorem sum_parts {M : Type*} [AddCommMonoid M] (f : Fin 50176 → M) :
    ∑ i, f i = ∑ x, f (part 0 x) + ∑ x, f (part 1 x) + ∑ x, f (part 2 x) + ∑ x, f (part 3 x) := by
  rw [← Equiv.sum_comp parts f, Fintype.sum_prod_type, Fin.sum_univ_four]
  rfl

/-- The values over a row, chunk by chunk. -/
theorem image_parts (f : Fin 50176 → EReal) :
    Finset.univ.image f = ((Finset.univ.image fun x => f (part 0 x)) ∪ (Finset.univ.image fun x => f (part 1 x))
      ∪ (Finset.univ.image fun x => f (part 2 x))) ∪ (Finset.univ.image fun x => f (part 3 x)) := by
  ext y
  simp only [Finset.mem_union, Finset.mem_image, Finset.mem_univ, true_and]
  constructor
  · rintro ⟨i, rfl⟩
    obtain ⟨a, x, rfl⟩ := exists_part i
    fin_cases a
    exacts [.inl (.inl (.inl ⟨x, rfl⟩)), .inl (.inl (.inr ⟨x, rfl⟩)), .inl (.inr ⟨x, rfl⟩), .inr ⟨x, rfl⟩]
  · rintro (((⟨x, rfl⟩ | ⟨x, rfl⟩) | ⟨x, rfl⟩) | ⟨x, rfl⟩) <;> exact ⟨_, rfl⟩

/-- An infimum over a row, chunk by chunk. -/
theorem inf_parts (f : Fin 50176 → EReal) :
    Finset.univ.inf f = min (min (min (Finset.univ.inf fun x => f (part 0 x)) (Finset.univ.inf fun x => f (part 1 x)))
      (Finset.univ.inf fun x => f (part 2 x))) (Finset.univ.inf fun x => f (part 3 x)) := by
  apply le_antisymm
  · refine le_min (le_min (le_min ?_ ?_) ?_) ?_ <;>
      exact Finset.le_inf fun x _ => Finset.inf_le (Finset.mem_univ _)
  · refine Finset.le_inf fun i _ => ?_
    obtain ⟨a, x, rfl⟩ := exists_part i
    fin_cases a
    · exact ((min_le_left _ _).trans (min_le_left _ _)).trans
        ((min_le_left _ _).trans (Finset.inf_le (f := fun x => f (part 0 x)) (Finset.mem_univ x)))
    · exact ((min_le_left _ _).trans (min_le_left _ _)).trans
        ((min_le_right _ _).trans (Finset.inf_le (f := fun x => f (part 1 x)) (Finset.mem_univ x)))
    · exact (min_le_left _ _).trans
        ((min_le_right _ _).trans (Finset.inf_le (f := fun x => f (part 2 x)) (Finset.mem_univ x)))
    · exact (min_le_right _ _).trans (Finset.inf_le (f := fun x => f (part 3 x)) (Finset.mem_univ x))

section
variable (d : FVec Ideal S64x50176 .f32) (q : Fin 64)

/-- One row of a table. -/
@[expose] noncomputable def rowOf : Fin 50176 → EReal := fun i => d (ix2 q i)

theorem quarter_apply (a : Fin 4) (x : Fin 12544) : quarter d a (ix2 q x) = rowOf d q (part a x) := by
  have hx := x.isLt
  fin_cases a <;> exact chunkOf_apply d _ _ q x (by omega)

/-! The group minima: the running minimum over the twenty-eight strips. -/

/-- Twenty-eight strips' places. -/
@[expose] def at28 (n : Fin 28) (j : Fin 1792) : Fin 50176 := ⟨1792 * n.val + j.val, by omega⟩

theorem laneMin_eq (c : Fin 50176 → EReal) (j : Fin 1792) : laneMin c j = Finset.univ.inf fun n : Fin 28 => c (at28 n j) := by
  apply le_antisymm
  · refine Finset.le_inf fun n _ => Finset.inf_le (Finset.mem_filter.2 ⟨Finset.mem_univ _, ?_⟩)
    simp only [lane, at28, Fin.ext_iff]
    omega
  · refine Finset.le_inf fun i hi => ?_
    have h := (Finset.mem_filter.1 hi).2
    have : at28 ⟨i.val / 1792, by omega⟩ j = i := by
      simp only [lane, at28, Fin.ext_iff] at h ⊢
      omega
    exact (Finset.inf_le (f := fun n : Fin 28 => c (at28 n j)) (Finset.mem_univ ⟨i.val / 1792, by omega⟩)).trans (by rw [this])

/-- The running minimum from the top. -/
@[expose] noncomputable def running (g : Nat → EReal) : Nat → EReal
  | 0 => ⊤
  | n + 1 => min (running g n) (g n)

theorem running_eq (g : Nat → EReal) (n : Nat) : running g n = (Finset.range n).inf g := by
  induction n with
  | zero => rfl
  | succ n ih => rw [running, ih, Finset.range_add_one, Finset.inf_insert, inf_comm]

theorem lanes_apply (j : Fin 1792) : lanes d (ix2 q j) = laneMin (rowOf d q) j := by
  have hj := j.isLt
  let G : Nat → EReal := fun o => if h : o + j.val < 50176 then rowOf d q ⟨o + j.val, h⟩ else ⊤
  have hG : ∀ o (h : o + j.val < 50176), G o = rowOf d q ⟨o + j.val, h⟩ := fun o h => dif_pos h
  have e : ∀ o (h : ∀ a, (![0, o] : Fin 2 → Nat) a + S64x1792.size a ≤ S64x50176.size a),
      strip d o h (ix2 q j) = G o := by
    intro o h
    have h1 : o + 1792 ≤ 50176 := h 1
    have h2 : o + j.val < 50176 := by omega
    rw [strip_apply d o h q j h2]
    exact (hG o h2).symm
  have l : lanes d (ix2 q j) = running (fun n => G (1792 * n)) 28 := by
    unfold lanes
    pointwise
    simp only [e, high_eq, running]
  rw [l, running_eq, laneMin_eq]
  apply le_antisymm
  · refine Finset.le_inf fun n _ => (Finset.inf_le (Finset.mem_range.2 n.isLt)).trans ?_
    exact le_of_eq (hG (1792 * n.val) (at28 n j).isLt)
  · refine Finset.le_inf fun n hn => ?_
    have hn := Finset.mem_range.1 hn
    refine (Finset.inf_le (Finset.mem_univ (⟨n, hn⟩ : Fin 28))).trans (le_of_eq ?_)
    exact (hG (1792 * n) (at28 ⟨n, hn⟩ j).isLt).symm

theorem tauOf_apply : tauOf d (ix2 q 0) = threshold (rowOf d q) := by
  have h : ∀ k, ((climb (lanes d))^[k] (broadcast S64x1 low)) (ix2 q 0)
      = up (Finset.univ.image (laneMin (rowOf d q))) k := by
    intro k
    induction k with
    | zero => exact low_eq
    | succ k ih =>
      rw [Function.iterate_succ_apply', climb_apply, ih]
      simp only [lanes_apply]
      rfl
  exact h 15

/-! The stops below the threshold. -/

/-- The kept values of a chunk. -/
@[expose] noncomputable def keptIn (a : Fin 4) : Finset EReal :=
  Finset.univ.image fun x => kept (rowOf d q) (part a x)

theorem kept_chunk (a : Fin 4) :
    (Finset.univ.image fun x : Fin 12544 => keep (tauOf d) (quarter d a) (ix2 q x)) = keptIn d q a := by
  unfold keptIn kept
  simp only [keep_apply, quarter_apply, tauOf_apply]

theorem fall_chunk (a : Fin 4) (k : Nat) : fall (keep (tauOf d) (quarter d a)) k (ix2 q 0) = down (keptIn d q a) k := by
  rw [fall_apply, kept_chunk]

theorem stops_step (s : Nat → FVec Ideal S64x1 .f32) (S : Finset EReal) (a : Fin 4)
    (hs : ∀ k < 4, s k (ix2 q 0) = down S k) :
    ∀ k < 4, stopsNext (tauOf d) s (quarter d a) k (ix2 q 0) = down (S ∪ keptIn d q a) k := by
  intro k hk
  unfold stopsNext
  rw [fall8_apply, join_image, hs 0 (by norm_num), hs 1 (by norm_num), hs 2 (by norm_num), hs 3 (by norm_num),
    fall_chunk, fall_chunk, fall_chunk, fall_chunk]
  exact down_four_union S (keptIn d q a) k hk

theorem down_empty (k : Nat) : down (∅ : Finset EReal) k = ⊥ := by
  cases k <;> rfl

theorem stopsOf_apply (k : Nat) (hk : k < 4) : stopsOf d k (ix2 q 0) = top (rowOf d q) k := by
  have h0 : ∀ k < 4, stops1 (tauOf d) (quarter d 0) k (ix2 q 0) = down (∅ ∪ keptIn d q 0) k :=
    stops_step d q (fun _ => broadcast S64x1 low) ∅ 0 fun k _ => low_eq.trans (down_empty k).symm
  have h3 := stops_step d q _ _ 3 (stops_step d q _ _ 2 (stops_step d q _ _ 1 h0))
  unfold stopsOf top
  rw [h3 k hk, Finset.empty_union, image_parts]
  rfl

theorem countAll_apply (t : FVec Ideal S64x1 .f32) :
    countAll (quarter d 0) (quarter d 1) (quarter d 2) (quarter d 3) t (ix2 q 0)
      = ((below (rowOf d q) (t (ix2 q 0)) : ℕ) : EReal) := by
  unfold countAll below
  rw [Finset.card_filter, sum_parts]
  pointwise
  simp only [count_apply, quarter_apply, zero_add, Finset.card_filter, Nat.cast_add]

theorem boundOf_apply : boundOf d (ix2 q 0) = bound (rowOf d q) := by
  unfold boundOf chosen bound
  rw [ifFew_apply _ _ _ q _ (countAll_apply d q _), ifFew_apply _ _ _ q _ (countAll_apply d q _),
    ifFew_apply _ _ _ q _ (countAll_apply d q _)]
  simp only [stopsOf_apply _ _ _ (show 0 < 4 by norm_num), stopsOf_apply _ _ _ (show 1 < 4 by norm_num),
    stopsOf_apply _ _ _ (show 2 < 4 by norm_num), stopsOf_apply _ _ _ (show 3 < 4 by norm_num)]

theorem part_cast (a : Fin 4) (x : Fin 12544) : ((part a x).val : ℝ) = (x.val : ℝ) + 12544 * (a.val : ℝ) := by
  simp only [part]
  push_cast
  ring

theorem min_at (a b : FVec Ideal S64x1 .f32) (i : S64x1.Idx) : minimumf a b i = min (a i) (b i) := rfl

theorem broadcast_at (v : Ideal .f32) (i : S64x1.Idx) : broadcast S64x1 v i = v := rfl

theorem placeOf_apply : placeOf d (ix2 q 0) = firstAt (rowOf d q) (bound (rowOf d q)) := by
  rw [placeOf, firstAll, min_at, min_at, min_at, min_at, broadcast_at, firstAt, inf_parts, firstIn_apply _ _ _ word_0, firstIn_apply _ _ _ word_12544, firstIn_apply _ _ _ word_25088,
    firstIn_apply _ _ _ word_37632]
  simp only [quarter_apply, boundOf_apply, high_eq, part_cast]
  norm_num

open Classical in
/-- One entry of the block of results. -/
theorem answer_apply (l : FVec Ideal S50176x16 .bf16) (j : Fin 10) :
    answer d l (ix2 q j) = Ideal.log (∑ i : Fin 50176,
      if Picked (rowOf d q) i then Ideal.exp (-(rowOf d q i)) * l (ix2 i ⟨j.val, by omega⟩) else 0) := by
  unfold answer finish
  rw [sum_parts]
  pointwise
  rw [weigh_apply _ _ _ word_0, weigh_apply _ _ _ word_12544, weigh_apply _ _ _ word_25088, weigh_apply _ _ _ word_37632]
  have e : ∀ (a : Fin 4) (r : ℝ) (hr : r = 12544 * (a.val : ℝ)) (o : Nat) (ho : o = 12544 * a.val) h,
      (∑ x : Fin 12544, if quarter d a (ix2 q x) < boundOf d (ix2 q 0) ∨ quarter d a (ix2 q x) = boundOf d (ix2 q 0) ∧
            (((x.val : ℝ) + r : ℝ) : EReal) ≤ placeOf d (ix2 q 0)
          then Ideal.exp (-(quarter d a (ix2 q x))) * labelRows l o h (ix2 x (⟨j.val, by omega⟩ : Fin 16)) else 0)
        = ∑ x, if Picked (rowOf d q) (part a x) then
            Ideal.exp (-rowOf d q (part a x)) * l (ix2 (part a x) ⟨j.val, by omega⟩) else 0 := by
    rintro a r rfl o rfl h
    refine Finset.sum_congr rfl fun x _ => ?_
    rw [quarter_apply, boundOf_apply, placeOf_apply, labelRows_apply _ _ _ _ _ (part a x).isLt, ← part_cast]
    exact if_congr Iff.rfl rfl rfl
  rw [e 0 _ (by norm_num) _ (by norm_num), e 1 _ (by norm_num) _ (by norm_num), e 2 _ (by norm_num) _ (by norm_num),
    e 3 _ (by norm_num) _ (by norm_num)]

end
end Nearest
-- ==== Proof.Order.lean ====
/-
  The top-k of a table of extended reals: one order per row, by value (greatest first) and then by index, whatever
  the number of columns kept.
-/
module

public import Idealize.ShloMosaic.PureOps.Ideal.Laws
public import Idealize.ShloMosaic.Lib.SortFacts
public import Idealize.ShloMosaic.Lib.Pointwise
public import Idealize.ShloMosaic.Lib.Pipeline.Value

public section

open Idealize.ShloMosaic

namespace Nearest

/-- Over an increasing list the stable sort may break its ties by index. -/
theorem stableSort_ties {n : Nat} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

section
variable {n : Nat} (c : Fin n → EReal)

/-- Greater first. -/
@[expose] noncomputable def greater (k k' : Fin n) : Bool := decide (c k' < c k)

/-- Greater first, then lower index first. -/
@[expose] noncomputable def greaterLex (k k' : Fin n) : Bool := decide (c k' < c k ∨ c k = c k' ∧ k < k')

theorem sortedFrom_greater : sortedFrom (greater c) = sortedFrom (greaterLex c) := by
  have h : sortPositions n (greater c) = sortPositions n (greaterLex c) := by
    refine stableSort_ties _ _ (fun a b hab => ?_) _ (List.pairwise_lt_finRange n)
    unfold greater greaterLex
    refine decide_eq_decide.2 ⟨Or.inl, ?_⟩
    rintro (h | h)
    exacts [h, absurd (h.2.trans hab) (lt_irrefl _)]
  funext k
  unfold sortedFrom
  rw [List.get_of_eq h]
  rfl

/-- The sorted order: by value, then by index. -/
theorem sortedFrom_lex (i j : Fin n) (hij : i < j) :
    c (sortedFrom (greater c) j) < c (sortedFrom (greater c) i)
      ∨ c (sortedFrom (greater c) i) = c (sortedFrom (greater c) j)
        ∧ sortedFrom (greater c) i < sortedFrom (greater c) j := by
  have hne : sortedFrom (greater c) i ≠ sortedFrom (greater c) j :=
    fun h => absurd (sortedFrom_injective _ h) hij.ne
  have key := sortedFrom_noInversion (greaterLex c) (greaterLex c)
    (fun a b h => by
      simp only [greaterLex, decide_eq_true_eq, decide_eq_false_iff_not, not_or, not_and, not_lt] at h ⊢
      rcases h with h | ⟨h, h'⟩
      · exact ⟨h.le, fun e => absurd e h.ne⟩
      · exact ⟨h.ge, fun _ => h'.le⟩)
    (fun a b h => h)
    (fun a b d h h' => by
      simp only [greaterLex, decide_eq_false_iff_not, not_or, not_and, not_lt] at h h' ⊢
      refine ⟨h.1.trans h'.1, fun e => ?_⟩
      have e1 : c a = c b := le_antisymm h.1 (e ▸ h'.1)
      exact (h'.2 (e1 ▸ e)).trans (h.2 e1))
    i j hij
  rw [← sortedFrom_greater] at key
  simp only [greaterLex, decide_eq_false_iff_not, not_or, not_and, not_lt] at key
  rcases key.1.eq_or_lt with h | h
  · exact .inr ⟨h.symm, (key.2 h).lt_of_ne hne⟩
  · exact .inl h

end

/-- The order of a row's columns: greatest first, equal ones by index. -/
@[expose] noncomputable def order (x : FVec Ideal ⟨2, ![1024, 50000]⟩ .f32) (q : Fin 1024) : Fin 50000 → Fin 50000 :=
  sortedFrom (greater fun k => x (ix2 q k))

theorem along_ix2 (q : Fin 1024) (r k : Fin 50000) :
    Shape.Idx.along (s := ⟨2, ![1024, 50000]⟩) (ix2 q r) (1 : Fin 2) k = ix2 q k := by
  funext a
  match a with
  | ⟨0, _⟩ => rfl
  | ⟨1, _⟩ => rfl

theorem total_gt (a b : Ideal .f32) : (FloatOps.cmpfTotal (F := Ideal) .gt a b == 1#1) = decide (b < a) := by
  change (BitVec.ofBool (decide (b < a)) == 1#1) = _
  by_cases h : b < a <;> simp [h]

variable (x : FVec Ideal ⟨2, ![1024, 50000]⟩ .f32) {K : Nat}
  (h : (⟨2, ![1024, 50000]⟩ : Shape).Slices (fun _ => 0) ⟨2, ![1024, K]⟩) (q : Fin 1024) (r : Fin K) (hr : r.val < 50000)

/-- The row's order, as the sort computes it. -/
theorem order_along (k : Fin 50000) :
    sortedFrom (fun a b : Fin 50000 => FloatOps.cmpfTotal (F := Ideal) CmpDirection.gt
        (x (Shape.Idx.along (s := ⟨2, ![1024, 50000]⟩) (ix2 q k) (1 : Fin 2) a))
        (x (Shape.Idx.along (s := ⟨2, ![1024, 50000]⟩) (ix2 q k) (1 : Fin 2) b)) == 1#1) k = order x q k := by
  simp only [total_gt, along_ix2]
  rfl

/-- The place a sorted entry comes from. -/
theorem along_order (k : Fin 50000) :
    Shape.Idx.along (s := ⟨2, ![1024, 50000]⟩) (ix2 q k) (1 : Fin 2)
      (sortedFrom (fun a b : Fin 50000 => FloatOps.cmpfTotal (F := Ideal) CmpDirection.gt
        (x (Shape.Idx.along (s := ⟨2, ![1024, 50000]⟩) (ix2 q k) (1 : Fin 2) a))
        (x (Shape.Idx.along (s := ⟨2, ![1024, 50000]⟩) (ix2 q k) (1 : Fin 2) b)) == 1#1) k) = ix2 q (order x q k) :=
  (congrArg (Shape.Idx.along (s := ⟨2, ![1024, 50000]⟩) (ix2 q k) (1 : Fin 2)) (order_along x q k)).trans (along_ix2 _ _ _)

theorem slice_ix2 : ∀ a : Fin 2, (ix2 q (⟨r.val, hr⟩ : Fin 50000) a).val
    = (fun _ => 0 : Fin 2 → Nat) a + (ix2 (n0 := 1024) (n1 := K) q r (a.cast h.1)).val := by
  intro a
  match a with
  | ⟨0, _⟩ => exact (Nat.zero_add _).symm
  | ⟨1, _⟩ => exact (Nat.zero_add _).symm

theorem iota_ix2 (k : Fin 50000) :
    iotaInDim ⟨2, ![1024, 50000]⟩ 32 (1 : Fin 2) (ix2 q k) = BitVec.ofNat 32 k.val := rfl

theorem topK_value :
    (Host.topK ⟨2, ![1024, K]⟩ 1 (FloatOps.cmpfTotal .gt) x h).1 (ix2 q r) = x (ix2 q (order x q ⟨r.val, hr⟩)) := by
  unfold Host.topK Host.sort2
  simp only [show (1 : Nat) < 2 by decide, dite_true]
  refine (extractStridedSlice_apply (fun _ => 0) _ h (ix2 q r) (ix2 q ⟨r.val, hr⟩) (slice_ix2 h q r hr)).trans ?_
  exact congrArg x (along_order x q ⟨r.val, hr⟩)

theorem topK_index :
    (Host.topK ⟨2, ![1024, K]⟩ 1 (FloatOps.cmpfTotal .gt) x h).2 (ix2 q r) = BitVec.ofNat 32 (order x q ⟨r.val, hr⟩).val := by
  unfold Host.topK Host.sort2
  simp only [show (1 : Nat) < 2 by decide, dite_true]
  refine (extractStridedSlice_apply (fun _ => 0) _ h (ix2 q r) (ix2 q ⟨r.val, hr⟩) (slice_ix2 h q r hr)).trans ?_
  refine Eq.trans ?_ (iota_ix2 q (order x q ⟨r.val, hr⟩))
  exact congrArg (iotaInDim ⟨2, ![1024, 50000]⟩ 32 (1 : Fin 2)) (along_order x q ⟨r.val, hr⟩)

end Nearest
-- ==== Proof.Gather.lean ====
/-
  Rows of a table taken at a rectangle of row numbers, read at an index.
-/
module

public import Idealize.ShloMosaic.Lib.ValueIdxCore
public import Idealize.ShloMosaic.Lib.StableHlo.Predicate
public import Idealize.ShloMosaic.Lib.Pointwise

public section

open Idealize.ShloMosaic

namespace Nearest

/-- The dimension numbers of rows of an `N × C` table taken at an `A × B` rectangle of numbers. -/
@[expose] def rowDims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- An entry of the result is the entry of the row its number names. -/
theorem rows_at {N A B C : Nat} (wf) (x : (⟨2, ![N, C]⟩ : Shape).Idx → EReal) (y : IVec ⟨3, ![A, B, 1]⟩ 32)
    (a : Fin A) (b : Fin B) (l : Fin C) (i : Fin N) (hy : (y (ix3 a b 0)).toInt.toNat = i.val) :
    Host.gather (rowDims N A B C wf) x y (ix3 a b l) = x (ix2 i l) := by
  unfold Host.gather
  refine congrArg x (funext fun e => Fin.ext ?_)
  have hbatch : ∀ e', (rowDims N A B C wf).batchCoord (ix3 a b l) e' = 0 := fun e' =>
    GatherDims.batchCoord_eq_zero _ _ _ List.not_mem_nil
  match e with
  | ⟨0, _⟩ =>
    show (rowDims N A B C wf).start (ix3 a b l) y 0 + (rowDims N A B C wf).batchCoord (ix3 a b l) 0
      + (rowDims N A B C wf).offCoord (ix3 a b l) 0 = i.val
    rw [hbatch, GatherDims.offCoord_eq_zero _ _ _
      (fun h => ((GatherDims.mem_sKept _ _).mp h).1 (List.mem_singleton.mpr rfl))]
    unfold GatherDims.start
    rw [dif_pos (show (0 : Fin 2) ∈ (rowDims N A B C wf).startIndexMap from List.mem_singleton.mpr rfl)]
    have hsi : (rowDims N A B C wf).siIdx (ix3 a b l) ⟨List.idxOf (0 : Fin 2) (rowDims N A B C wf).startIndexMap,
        List.idxOf_lt_length_iff.2 (List.mem_singleton.mpr rfl)⟩ = ix3 a b 0 := by
      funext c; refine Fin.ext ?_
      match c with
      | ⟨0, _⟩ => rfl
      | ⟨1, _⟩ => rfl
      | ⟨2, _⟩ => rfl
    rw [hsi, hy]
    show min i.val (N - 1) + 0 + 0 = i.val
    have := i.isLt
    omega
  | ⟨1, _⟩ =>
    show (rowDims N A B C wf).start (ix3 a b l) y 1 + (rowDims N A B C wf).batchCoord (ix3 a b l) 1
      + (rowDims N A B C wf).offCoord (ix3 a b l) 1 = l.val
    rw [hbatch]
    have hm : (1 : Fin 2) ∉ (rowDims N A B C wf).startIndexMap := fun h =>
      absurd (congrArg Fin.val (List.mem_singleton.mp h)) Nat.one_ne_zero
    have hk : (1 : Fin 2) ∈ (rowDims N A B C wf).sKept := (GatherDims.mem_sKept _ _).mpr
      ⟨fun h => absurd (congrArg Fin.val (List.mem_singleton.mp h)) Nat.one_ne_zero, List.not_mem_nil⟩
    unfold GatherDims.start GatherDims.offCoord
    rw [dif_neg hm, dif_pos hk, Nat.zero_add]
    rfl

end Nearest
-- ==== Proof.Reference.lean ====
/-
  The reference's result at an index: the logarithm of the sum over its fifteen nearest rows.
-/
module

public import proofs.«01_k».proof.Proof.Query
public import proofs.«01_k».proof.Proof.Order
public import proofs.«01_k».proof.Proof.Gather
public import proofs.«01_k».proof.Proof.Gen.ReferenceIdeal.Read

public section

open Idealize.ShloMosaic Cert.ReferenceIdeal Cert.ReferenceIdeal.Gen Cert.ReferenceIdeal.Read

namespace Nearest

variable (x0 : (⟨S1024x3x32x32, .f32⟩ : BufTy).Contents (Elt Ideal)) (x1 : (⟨S3072x3072, .f32⟩ : BufTy).Contents (Elt Ideal))
  (x2 : (⟨S50000x30, .f32⟩ : BufTy).Contents (Elt Ideal)) (x3 : (⟨S50000x10, .f32⟩ : BufTy).Contents (Elt Ideal))

/-- Query `q` as one row. -/
@[expose] noncomputable def query (q : Fin 1024) : Fin 3072 → EReal := fun j => val_main_v0 (F := Ideal) x0 (ix2 q j)

/-- Query `q` projected. -/
@[expose] noncomputable def queryP (q : Fin 1024) : Fin 30 → EReal := fun k =>
  projected (query x0 q) fun j => x1 (ix2 j ⟨k.val, by omega⟩)

/-- Query `q`'s distance to row `i` of the data. -/
@[expose] noncomputable def away (q : Fin 1024) (i : Fin 50000) : EReal :=
  distance (fun k => x2 (ix2 i k)) (queryP x0 x1 q)

theorem scaled_apply (q : Fin 1024) (i : Fin 3072) : val_main_v9 (F := Ideal) x0 (ix2 q i) = scaled (query x0 q) i := by
  unfold val_main_v9 val_main_v8 val_main_v7 val_main_call0_v2 val_main_call0_v1 val_main_call0_v0 val_main_v6 val_main_v5
    val_main_v4 val_main_v3 val_main_v2 val_main_v1 val_main_cst val_main_cst_0 val_main_call0_cst
  unfold scaled centred query
  generalize val_main_v0 (F := Ideal) x0 = y
  pointwise

theorem projected_apply (q : Fin 1024) (k : Fin 30) : val_main_v11 (F := Ideal) x0 x1 (ix2 q k) = queryP x0 x1 q k := by
  unfold queryP projected
  simp only [← scaled_apply]
  unfold val_main_v11 val_main_v10
  generalize val_main_v9 (F := Ideal) x0 = y
  pointwise

theorem away_apply (q : Fin 1024) (i : Fin 50000) : val_main_v28 (F := Ideal) x0 x1 x2 (ix2 i q) = away x0 x1 x2 q i := by
  unfold away distance floor2
  simp only [← projected_apply]
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_cst_1
    val_main_cst_2 val_main_cst_3 val_main_cst_4
  generalize val_main_v11 (F := Ideal) x0 x1 = y
  pointwise

/-- The negated distances, a row to a query. -/
theorem negated_apply (q : Fin 1024) (i : Fin 50000) : val_main_v30 (F := Ideal) x0 x1 x2 (ix2 q i) = -away x0 x1 x2 q i := by
  rw [← away_apply]
  unfold val_main_v30 val_main_v29
  generalize val_main_v28 (F := Ideal) x0 x1 x2 = y
  pointwise

/-- Query `q`'s rows of the data, nearest first, equal ones by index. -/
@[expose] noncomputable def nearest (q : Fin 1024) : Fin 50000 → Fin 50000 := order (val_main_v30 (F := Ideal) x0 x1 x2) q

theorem nearest_lex (q : Fin 1024) (i j : Fin 50000) (hij : i < j) :
    away x0 x1 x2 q (nearest x0 x1 x2 q i) < away x0 x1 x2 q (nearest x0 x1 x2 q j)
      ∨ away x0 x1 x2 q (nearest x0 x1 x2 q i) = away x0 x1 x2 q (nearest x0 x1 x2 q j)
        ∧ nearest x0 x1 x2 q i < nearest x0 x1 x2 q j := by
  have h := sortedFrom_lex (fun k => val_main_v30 (F := Ideal) x0 x1 x2 (ix2 q k)) i j hij
  simp only [negated_apply, EReal.neg_lt_neg_iff, neg_inj] at h
  unfold nearest order
  simp only [negated_apply]
  exact h

theorem nearest_surjective (q : Fin 1024) : Function.Surjective (nearest x0 x1 x2 q) := by
  unfold nearest order
  exact sortedFrom_surjective _

theorem values_apply (q : Fin 1024) (r : Fin 15) :
    val_main_values (F := Ideal) x0 x1 x2 (ix2 q r) = -away x0 x1 x2 q (nearest x0 x1 x2 q ⟨r.val, by omega⟩) := by
  rw [← negated_apply]
  exact topK_value _ _ q r (by omega)

theorem indices_apply (q : Fin 1024) (r : Fin 15) :
    val_main_indices (F := Ideal) x0 x1 x2 (ix2 q r) = BitVec.ofNat 32 (nearest x0 x1 x2 q ⟨r.val, by omega⟩).val :=
  topK_index _ _ q r (by omega)

/-- A row number as a signed word is itself. -/
theorem word_of_row (i : Fin 50000) : (BitVec.ofNat 32 i.val).toInt = i.val :=
  StableHlo.Predicate.toInt_ofNat_small _ (by omega)

/-- The index is not negative, so the reference uses it as it is. -/
theorem starts_apply (q : Fin 1024) (r : Fin 15) :
    val_main_v37 (F := Ideal) x0 x1 x2 (ix3 q r 0) = BitVec.ofNat 32 (nearest x0 x1 x2 q ⟨r.val, by omega⟩).val := by
  have h := indices_apply x0 x1 x2 q r
  generalize nearest x0 x1 x2 q ⟨r.val, by omega⟩ = i at h ⊢
  have hi : ¬ (BitVec.ofNat 32 i.val).toInt < (0#32 : BitVec 32).toInt := by
    rw [word_of_row, show (0#32 : BitVec 32).toInt = 0 from rfl]
    omega
  rw [← h] at hi ⊢
  unfold val_main_v37 val_main_v36 val_main_v35 val_main_v34 val_main_v33 val_main_v32 val_main_c val_main_c_5
  generalize val_main_indices (F := Ideal) x0 x1 x2 = y at hi ⊢
  pointwise
  unfold Scalar.select IntOp.cmpi
  rw [BitVec.slt, decide_eq_false hi]
  rfl

theorem rows_here (x : FVec Ideal S50000x10 .f32) (y : IVec S1024x15x1 32) (q : Fin 1024) (r : Fin 15) (l : Fin 10)
    (i : Fin 50000) (hy : (y (ix3 q r 0)).toInt.toNat = i.val) :
    Host.gather gather_S50000x10_S1024x15x1_S1024x15x10_2_0_n_n_0_2_110 x y (ix3 q r l) = x (ix2 i l) :=
  rows_at _ x y q r l i hy

theorem gather_apply (q : Fin 1024) (r : Fin 15) (l : Fin 10) :
    val_main_v38 (F := Ideal) x0 x1 x2 x3 (ix3 q r l) = x3 (ix2 (nearest x0 x1 x2 q ⟨r.val, by omega⟩) l) := by
  rw [val_main_v38]
  exact rows_here _ _ q r l _ (by rw [starts_apply, word_of_row, Int.toNat_natCast])

theorem twice_negated_at (v : FVec Ideal S1024x15 .f32) (q : Fin 1024) (r : Fin 15) :
    broadcastInDim S1024x15x1 ![0, 1] bcast_S1024x15_S1024x15x1_0_1 (Host.exp (Host.negf (Host.negf v))) (ix3 q r 0)
      = Ideal.exp (- -v (ix2 q r)) := by
  pointwise

theorem weights_apply (q : Fin 1024) (r : Fin 15) :
    val_main_v41 (F := Ideal) x0 x1 x2 (ix3 q r 0) = Ideal.exp (- -val_main_values (F := Ideal) x0 x1 x2 (ix2 q r)) := by
  rw [val_main_v41, val_main_v40, val_main_v39, val_main_v31]
  exact twice_negated_at _ q r

theorem product_at (w : FVec Ideal S1024x15x10 .f32) (v : FVec Ideal S1024x15x1 .f32) (q : Fin 1024) (r : Fin 15) (l : Fin 10) :
    mulf w (broadcastInDim S1024x15x10 ![0, 1, 2] bcast_S1024x15x1_S1024x15x10_0_1_2 v) (ix3 q r l) = w (ix3 q r l) * v (ix3 q r 0) := by
  pointwise

theorem terms_apply (q : Fin 1024) (r : Fin 15) (l : Fin 10) :
    val_main_v43 (F := Ideal) x0 x1 x2 x3 (ix3 q r l)
      = val_main_v38 (F := Ideal) x0 x1 x2 x3 (ix3 q r l) * val_main_v41 (F := Ideal) x0 x1 x2 (ix3 q r 0) := by
  rw [val_main_v43, val_main_v42]
  exact product_at _ _ q r l

theorem sum_at (w : FVec Ideal S1024x15x10 .f32) (q : Fin 1024) (l : Fin 10) :
    Host.log (Host.reduceAdd w (constant (F := Ideal) S_ .f32 0x00000000#32) reducesTo_S1024x15x10_S1024x10_d1 h_S_) (ix2 q l)
      = Ideal.log (∑ r : Fin 15, w (ix3 q r l)) := by
  pointwise

theorem total_apply (q : Fin 1024) (l : Fin 10) :
    val_main_v45 (F := Ideal) x0 x1 x2 x3 (ix2 q l)
      = Ideal.log (∑ r : Fin 15, val_main_v43 (F := Ideal) x0 x1 x2 x3 (ix3 q r l)) := by
  rw [val_main_v45, val_main_v44, val_main_cst_6]
  exact sum_at _ q l

/-- The reference's result, its fifteen rows named. -/
theorem reference_apply (q : Fin 1024) (l : Fin 10) :
    val_main_v45 (F := Ideal) x0 x1 x2 x3 (ix2 q l) = Ideal.log (∑ r : Fin 15,
      Ideal.exp (-away x0 x1 x2 q (nearest x0 x1 x2 q ⟨r.val, by omega⟩)) * x3 (ix2 (nearest x0 x1 x2 q ⟨r.val, by omega⟩) l)) := by
  rw [total_apply]
  refine congrArg Ideal.log (Finset.sum_congr rfl fun r _ => ?_)
  rw [terms_apply, gather_apply, weights_apply, values_apply, neg_neg, mul_comm]

end Nearest
-- ==== Proof.KernelRows.lean ====
/-
  The kernel's result at an index, over the rows of the data lengthened by the rows far away.
-/
module

public import proofs.«01_k».proof.Proof.Arrays
public import proofs.«01_k».proof.Proof.DistRead
public import proofs.«01_k».proof.Proof.Rowwise
public import proofs.«01_k».proof.Proof.Reference

public section

open Idealize.ShloMosaic Idealize.ShloMosaic.TcCoe Cert.KernelIdeal Cert.KernelIdeal.Gen
open scoped Classical

namespace Nearest

/-- Row `i` of the data, the rows past its end far away. -/
@[expose] noncomputable def extended (d : FVec Ideal S50000x30 .f32) (i : Fin 50176) (k : Fin 30) : EReal :=
  if h : i.val < 50000 then d (ix2 ⟨i.val, h⟩ k) else Ideal.ofBits .f32 0x447A0000#32

/-- Query `q`'s distance to row `i` of the lengthened data, as the kernel takes it. -/
@[expose] noncomputable def awayK (a0 : FVec Ideal S1024x3x32x32 .f32) (a1 : FVec Ideal S3072x3072 .f32)
    (a2 : FVec Ideal S50000x30 .f32) (q : Fin 1024) (i : Fin 50176) : EReal :=
  distanceK (extended a2 i) (queryP a0 a1 q)

variable (a0 : FVec Ideal S1024x3x32x32 .f32) (a1 : FVec Ideal S3072x3072 .f32) (a2 : FVec Ideal S50000x30 .f32)
  (a3 : FVec Ideal S50000x10 .f32)

theorem sum_two_more (f : Fin 32 → EReal) (h0 : f 30 = 0) (h1 : f 31 = 0) :
    ∑ k, f k = ∑ k : Fin 30, f ⟨k.val, by omega⟩ := by
  rw [Fin.sum_univ_castSucc, Fin.sum_univ_castSucc]
  rw [show f (Fin.last 31) = 0 from h1, show f (Fin.last 30).castSucc = 0 from h0, add_zero, add_zero]
  rfl

theorem queriesIn_row (q : Fin 1024) : (fun i => queriesIn a0 (ix2 q i)) = query a0 q := rfl

/-- The rows projected as the kernel projects them. -/
theorem projected_row (q : Fin 1024) (k : Fin 32) :
    rowsProjected (rowsScaled (rowsCentred (queriesIn a0))) (projectorIn a1) (ix2 q k)
      = if h : k.val < 30 then queryP a0 a1 q ⟨k.val, h⟩ else 0 := by
  have hs : ∀ j, rowsScaled (rowsCentred (queriesIn a0)) (ix2 q j) = scaled (query a0 q) j := fun j => by
    rw [rowsScaled_apply]
    simp only [rowsCentred_apply, queriesIn_row]
    rfl
  rw [rowsProjected_apply]
  simp only [hs, projectorIn_apply]
  split
  · rfl
  · exact Finset.sum_eq_zero fun j _ => mul_zero _

theorem data_row (k : Fin 30) (i : Fin 50176) : dataIn a2 (ix2 ⟨k.val, by omega⟩ i) = extended a2 i k := by
  rw [dataIn_apply, dif_pos k.isLt]
  rfl

/-- The first kernel's table of queries. -/
@[expose] noncomputable def tableQ : FVec Ideal S1024x32 .f32 :=
  withNorm (rowsProjected (rowsScaled (rowsCentred (queriesIn a0))) (projectorIn a1))

/-- The first kernel's table of data. -/
@[expose] noncomputable def tableD : FVec Ideal S32x50176 .f32 := dataNorm (dataIn a2)

theorem tableQ_norm (q : Fin 1024) : tableQ a0 a1 (ix2 q 31) = ∑ k, queryP a0 a1 q k * queryP a0 a1 q k := by
  unfold tableQ
  rw [withNorm_apply, if_neg (by decide), if_pos (by decide), sum_two_more]
  · refine Finset.sum_congr rfl fun k _ => ?_
    rw [projected_row, dif_pos k.isLt]
  · rw [projected_row, dif_neg (by decide), mul_zero]
  · rw [projected_row, dif_neg (by decide), mul_zero]

theorem tableQ_row (q : Fin 1024) (k : Fin 30) :
    tableQ a0 a1 (ix2 q ⟨k.val, by omega⟩) = Ideal.ofBits .f32 0xC0000000#32 * queryP a0 a1 q k := by
  have hk := k.isLt
  unfold tableQ
  rw [withNorm_apply, if_neg (by show ¬ k.val = 30; omega), if_neg (by show ¬ k.val = 31; omega), projected_row, dif_pos hk]

theorem tableD_norm (i : Fin 50176) : tableD a2 (ix2 30 i) = ∑ k, extended a2 i k * extended a2 i k := by
  unfold tableD
  rw [dataNorm_apply, if_pos (by decide), sum_two_more]
  · refine Finset.sum_congr rfl fun k _ => ?_
    rw [data_row]
  · rw [dataIn_apply, dif_neg (by decide), mul_zero]
  · rw [dataIn_apply, dif_neg (by decide), mul_zero]

theorem tableD_row (k : Fin 30) (i : Fin 50176) : tableD a2 (ix2 ⟨k.val, by omega⟩ i) = extended a2 i k := by
  have hk := k.isLt
  unfold tableD
  rw [dataNorm_apply, if_neg (by show ¬ k.val = 30; omega), if_neg (by show ¬ k.val = 31; omega), data_row]

/-- The kernel's result for query `q` and label `l`. -/
@[expose] noncomputable def resultAt (q : Fin 1024) (l : Fin 10) : EReal :=
  Ideal.log (∑ i : Fin 50176, if Picked (awayK a0 a1 a2 q) i then
    Ideal.exp (-(awayK a0 a1 a2 q i)) * labelsIn a3 (ix2 i ⟨l.val, by omega⟩) else 0)

/-- The kernel's result. -/
@[expose] noncomputable def resultK : FVec Ideal S1024x10 .f32 := fun y => resultAt a0 a1 a2 a3 (y 0) (y 1)

theorem block_answer (x0 : FVec Ideal S64x32 .f32) (t : Nat) (ht : t < 16)
    (hx : ∀ (a : Fin 64) (k : Fin 32), x0 (ix2 a k) = tableQ a0 a1 (ix2 ⟨64 * t + a.val, by omega⟩ k)) (a : Fin 64) (l : Fin 10) :
    answer (dists (F := Ideal) x0 (tableD a2)) (labelsIn a3) (ix2 a l) = resultK a0 a1 a2 a3 (ix2 ⟨64 * t + a.val, by omega⟩ l) := by
  have hrow : rowOf (dists (F := Ideal) x0 (tableD a2)) a = awayK a0 a1 a2 ⟨64 * t + a.val, by omega⟩ := by
    funext i
    unfold rowOf awayK distanceK
    rw [dists_apply, hx, tableQ_norm, tableD_norm]
    have hk : ∀ k : Fin 30, x0 (ix2 a ⟨k.val, by omega⟩) * tableD a2 (ix2 ⟨k.val, by omega⟩ i)
        = Ideal.ofBits .f32 3221225472#32 * queryP a0 a1 ⟨64 * t + a.val, by omega⟩ k * extended a2 i k := fun k => by
      rw [hx, tableQ_row, tableD_row]
    simp only [hk]
  rw [answer_apply, hrow]
  rfl

variable (m : (ℓ : Loc nD τ sig) → Buf (Elt Ideal) ℓ) (ρ : Dev nD → PrngReg) (c : Dev nD)

theorem region_queries : V8 m ρ c main_v9_0 = tableQ (m ((c : Thread nD τ).loc main_arg0)) (m ((c : Thread nD τ).loc main_arg1)) := by
  have h := (hF0 m ρ c 3).symm.trans (left0_3 (V7 m ρ) c)
  have e0 : V7 m ρ c main_v0 = _ := entry_queries m ρ c
  have e1 : V7 m ρ c main_v2 = _ := entry_projector m ρ c
  have e2 : V7 m ρ c main_v6 = _ := entry_data m ρ c
  rw [e0, e1, e2, out0_3_eq] at h
  exact h

theorem region_data : V8 m ρ c main_v9_1 = tableD (m ((c : Thread nD τ).loc main_arg2)) := by
  have h := (hF0 m ρ c 4).symm.trans (left0_4 (V7 m ρ) c)
  have e0 : V7 m ρ c main_v0 = _ := entry_queries m ρ c
  have e1 : V7 m ρ c main_v2 = _ := entry_projector m ρ c
  have e2 : V7 m ρ c main_v6 = _ := entry_data m ρ c
  rw [e0, e1, e2, out0_4_eq] at h
  exact h

theorem region_labels : V8 m ρ c main_v8 = labelsIn (m ((c : Thread nD τ).loc main_arg3)) :=
  (W8_of_ne m ρ c main_v8 (by decide)).trans (entry_labels m ρ c)

/-- The result array at the end of the run. -/
theorem result_array : W9 m ρ c (Proc.devRef .tc main_v10)
    = resultK (m ((c : Thread nD τ).loc main_arg0)) (m ((c : Thread nD τ).loc main_arg1))
        (m ((c : Thread nD τ).loc main_arg2)) (m ((c : Thread nD τ).loc main_arg3)) := by
  refine (W9_arr m ρ c 3).trans (left1_3 (V8 m ρ) c _ fun t ht a l => ?_)
  rw [region_data, region_labels]
  refine block_answer _ _ _ _ _ t.val ht (fun b k => ?_) a l
  rw [block1_0 _ _ _ ht, region_queries]

end Nearest
-- ==== Proof.Bounds.lean ====
/-
  Over the extended reals: a scaled query's entries are at most one in size or all bottom, so a projected entry is
  infinite or at most 384 in size; a distance to a query with an infinite entry takes one of two values; a distance to a
  real query is a real root, whichever way it is computed.
-/
module

public import proofs.«01_k».proof.Proof.Query

public section

open Idealize.ShloMosaic

namespace Nearest

/-- A finite sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem two_word : Ideal.ofBits .f32 1073741824#32 = ((2 : ℝ) : EReal) := by
  simp [Ideal.ofBits, Ideal.ieee]
  norm_cast
  norm_num

theorem minus_two_word : Ideal.ofBits .f32 3221225472#32 = ((-2 : ℝ) : EReal) := by
  simp [Ideal.ofBits, Ideal.ieee]
  norm_cast
  norm_num

theorem thousand_word : Ideal.ofBits .f32 0x447A0000#32 = ((1000 : ℝ) : EReal) := by
  simp [Ideal.ofBits, Ideal.ieee]
  norm_cast
  norm_num

theorem floor2_real : ∃ ε : ℝ, floor2 = ε ∧ 0 < ε ∧ ε ≤ 1 := by
  refine ⟨9223372 / 2 ^ 63, ?_, by norm_num, by norm_num⟩
  unfold floor2
  simp [Ideal.ofBits, Ideal.ieee]
  norm_cast

theorem square_nonneg (x : EReal) : 0 ≤ x * x := by
  induction x with
  | bot => simp
  | top => simp
  | coe r => exact_mod_cast mul_self_nonneg r

/-- A sum of squares with an infinite term is the top. -/
theorem squares_top {n : Nat} (p : Fin n → EReal) (k : Fin n) (h : p k = ⊤ ∨ p k = ⊥) : ∑ k, p k * p k = ⊤ := by
  have hk : p k * p k = ⊤ := by rcases h with h | h <;> simp [h]
  exact top_le_iff.1 (hk ▸ Finset.single_le_sum (f := fun k => p k * p k) (fun i _ => square_nonneg (p i)) (Finset.mem_univ k))

theorem real_of_finite {x : EReal} (h1 : x ≠ ⊤) (h2 : x ≠ ⊥) : ∃ r : ℝ, x = r := ⟨x.toReal, (EReal.coe_toReal h1 h2).symm⟩

/-- A scaled query: all bottom, or real and at most one in size. -/
theorem scaled_cases (x : Fin 3072 → EReal) :
    (∀ j, scaled x j = ⊥) ∨ ∀ j, ∃ r : ℝ, scaled x j = r ∧ |r| ≤ 1 := by
  unfold scaled
  generalize centred x = c
  by_cases hf : ∃ k, c k = ⊤ ∨ c k = ⊥
  · obtain ⟨k, hk⟩ := hf
    right
    intro j
    rw [squares_top c k hk]
    exact ⟨0, by simp [Ideal.div], by simp⟩
  · push Not at hf
    choose γ hγ using fun k => real_of_finite (hf k).1 (hf k).2
    simp only [hγ, ← EReal.coe_mul, ← coe_sum]
    have hs : 0 ≤ ∑ i, γ i * γ i := Finset.sum_nonneg fun i _ => mul_self_nonneg _
    have hle : ∀ j, γ j * γ j ≤ ∑ i, γ i * γ i := fun j =>
      Finset.single_le_sum (f := fun k => γ k * γ k) (fun i _ => mul_self_nonneg (γ i)) (Finset.mem_univ j)
    generalize (∑ i, γ i * γ i) = s at hs hle
    rw [Ideal.sqrt_coe, if_neg (not_lt.2 hs)]
    rcases hs.eq_or_lt with rfl | hpos
    · left
      intro j
      rw [show γ j = 0 from mul_self_eq_zero.1 (le_antisymm (hle j) (mul_self_nonneg _))]
      simp [Ideal.div]
    · right
      intro j
      have hr : 0 < √s := Real.sqrt_pos.2 hpos
      refine ⟨γ j * (1 / √s), by rw [Ideal.div_coe hr.ne', EReal.coe_mul], ?_⟩
      rw [mul_one_div, abs_div, abs_of_pos hr, div_le_one hr]
      refine Real.le_sqrt_of_sq_le ?_
      rw [sq_abs, sq]
      exact hle j

/-- A projected entry: infinite, or at most 384 in size. -/
theorem projected_cases (x P : Fin 3072 → EReal) (hP : ∀ j, ∃ r : ℝ, P j = r ∧ |r| ≤ 1 / 8) :
    (projected x P = ⊤ ∨ projected x P = ⊥) ∨ ∃ r : ℝ, projected x P = r ∧ |r| ≤ 384 := by
  choose π hπ hπ8 using hP
  unfold projected
  rcases scaled_cases x with h | h
  · have : (∑ j, scaled x j * P j) = 0 ∨ (∑ j, scaled x j * P j) = ⊤ ∨ (∑ j, scaled x j * P j) = ⊥ := by
      refine Finset.sum_induction _ (fun y => y = 0 ∨ y = ⊤ ∨ y = ⊥) ?_ (Or.inl rfl) fun j _ => ?_
      · rintro a b (rfl | rfl | rfl) (rfl | rfl | rfl) <;> simp
      · rw [h, hπ]
        rcases lt_trichotomy (π j) 0 with h | h | h
        · rw [EReal.bot_mul_coe_of_neg h]; simp
        · rw [h]; simp
        · rw [EReal.bot_mul_coe_of_pos h]; simp
    rcases this with h | h | h
    · exact Or.inr ⟨0, by rw [h]; rfl, by simp⟩
    · exact Or.inl (Or.inl h)
    · exact Or.inl (Or.inr h)
  · choose σ hσ hσ1 using h
    refine Or.inr ⟨∑ j, σ j * π j, ?_, ?_⟩
    · rw [coe_sum]
      exact Finset.sum_congr rfl fun j _ => by rw [hσ, hπ, EReal.coe_mul]
    · refine (Finset.abs_sum_le_sum_abs _ _).trans ((Finset.sum_le_card_nsmul _ _ (1 / 8 : ℝ) fun j _ => ?_).trans ?_)
      · rw [abs_mul]
        calc |σ j| * |π j| ≤ 1 * (1 / 8) := mul_le_mul (hσ1 j) (hπ8 j) (abs_nonneg _) zero_le_one
          _ = 1 / 8 := one_mul _
      · simp
        norm_num

/-- The distance of a real row to a query with an infinite entry takes one of two values. -/
theorem distance_two (δ : Fin 30 → ℝ) (p : Fin 30 → EReal) (k : Fin 30) (hk : p k = ⊤ ∨ p k = ⊥) :
    distance (fun k => (δ k : EReal)) p = ⊤ ∨ distance (fun k => (δ k : EReal)) p = Ideal.sqrt floor2 := by
  unfold distance
  rw [squares_top p k hk]
  simp only [← EReal.coe_mul, ← coe_sum, EReal.coe_add_top]
  generalize (Ideal.ofBits .f32 1073741824#32 * ∑ k, (δ k : EReal) * p k : EReal) = y
  change EReal at y
  induction y using EReal.rec with
  | bot => left; simp
  | top => right; simp
  | coe r => left; simp

/-- A squared distance cut at the floor, then its root. -/
@[expose] noncomputable def root (δ π : Fin 30 → ℝ) : EReal := Ideal.sqrt (max ((∑ k, (δ k - π k) ^ 2 : ℝ) : EReal) floor2)

theorem distance_real (δ π : Fin 30 → ℝ) : distance (fun k => (δ k : EReal)) (fun k => (π k : EReal)) = root δ π := by
  unfold distance root
  rw [two_word]
  simp only [← EReal.coe_mul, ← coe_sum, ← EReal.coe_add, ← EReal.coe_sub]
  rw [← Finset.sum_add_distrib, Finset.mul_sum, ← Finset.sum_sub_distrib]
  congr 4
  funext k
  ring

theorem distanceK_real (δ π : Fin 30 → ℝ) : distanceK (fun k => (δ k : EReal)) (fun k => (π k : EReal)) = root δ π := by
  unfold distanceK root
  rw [minus_two_word]
  simp only [← EReal.coe_mul, ← coe_sum, ← EReal.coe_add]
  rw [← Finset.sum_add_distrib, ← Finset.sum_add_distrib]
  congr 4
  funext k
  ring

theorem root_eq (δ π : Fin 30 → ℝ) : ∃ ε : ℝ, 0 < ε ∧ ε ≤ 1 ∧ floor2 = ε ∧ root δ π = (√(max (∑ k, (δ k - π k) ^ 2) ε) : ℝ) := by
  obtain ⟨ε, h, h0, h1⟩ := floor2_real
  refine ⟨ε, h0, h1, h, ?_⟩
  unfold root
  rw [h, ← EReal.coe_strictMono.monotone.map_max, Ideal.sqrt_coe, if_neg (not_lt.2 (h0.le.trans (le_max_right _ _)))]

theorem root_bot (δ π : Fin 30 → ℝ) : ⊥ < root δ π := by
  obtain ⟨ε, -, -, -, h⟩ := root_eq δ π
  rw [h]
  exact EReal.bot_lt_coe _

theorem root_top (δ π : Fin 30 → ℝ) : root δ π < ⊤ := by
  obtain ⟨ε, -, -, -, h⟩ := root_eq δ π
  rw [h]
  exact EReal.coe_lt_top _

/-- A padding row is farther than every row of the data. -/
theorem root_pad (δ π : Fin 30 → ℝ) (hδ : ∀ k, |δ k| ≤ 1) (hπ : ∀ k, |π k| ≤ 384) : root δ π < root (fun _ => 1000) π := by
  obtain ⟨ε, h0, h1, he, h⟩ := root_eq δ π
  obtain ⟨ε', -, -, he', h'⟩ := root_eq (fun _ => 1000) π
  have : ε = ε' := by exact_mod_cast he.symm.trans he'
  subst this
  rw [h, h', EReal.coe_lt_coe_iff]
  have hterm : ∀ k, (δ k - π k) ^ 2 + 1 ≤ (1000 - π k) ^ 2 := by
    intro k
    have hd := abs_le.1 (hδ k)
    have hp := abs_le.1 (hπ k)
    nlinarith [hd.1, hd.2, hp.1, hp.2]
  have hsum : (∑ k, (δ k - π k) ^ 2) + 30 ≤ ∑ k, (1000 - π k) ^ 2 := by
    have := Finset.sum_le_sum fun k (_ : k ∈ Finset.univ) => hterm k
    rw [Finset.sum_add_distrib] at this
    simpa using this
  have hnn : 0 ≤ ∑ k, (δ k - π k) ^ 2 := Finset.sum_nonneg fun k _ => sq_nonneg _
  refine Real.sqrt_lt_sqrt (h0.le.trans (le_max_right _ _)) (lt_of_lt_of_le ?_ (le_max_left _ _))
  exact max_lt (by linarith) (by linarith)

end Nearest
-- ==== Proof.Near.lean ====
/-
  The precondition read: its four arrays in terms of the data, the projector and the reference's negated distances.
-/
module

public import proofs.«01_k».proof.Proof.PreFacts
public import proofs.«01_k».proof.Proof.Reference
public import proofs.«01_k».proof.Proof.Bounds

public section

open Idealize.ShloMosaic Cert.Pre_nearest_apart Cert.Pre_nearest_apart.Facts

namespace Nearest

/-- Which entries of the data are at most one in size. -/
@[expose] noncomputable def dataBounded (a2 : FVec Ideal S50000x30 .f32) : IVec S50000x30 1 :=
  cmpf .ole (Host.absf a2) (broadcastInDim S50000x30 ![] bcast_S_S50000x30 (constant (F := Ideal) S_ .f32 0x3F800000#32))

/-- Which entries of the projector are at most an eighth in size. -/
@[expose] noncomputable def projectorBounded (a1 : FVec Ideal S3072x3072 .f32) : IVec S3072x3072 1 :=
  cmpf .ole (Host.absf a1) (broadcastInDim S3072x3072 ![] bcast_S_S3072x3072 (constant (F := Ideal) S_ .f32 0x3E000000#32))

/-- The eighteen greatest of each row. -/
@[expose] noncomputable def top18 (v : FVec Ideal S1024x50000 .f32) : FVec Ideal S1024x18 .f32 :=
  (Host.topK S1024x18 1 (FloatOps.cmpfTotal .gt) v sliceFits_S1024x50000_S1024x18).1

/-- Their columns. -/
@[expose] noncomputable def top18At (v : FVec Ideal S1024x50000 .f32) : IVec S1024x18 32 :=
  (Host.topK S1024x18 1 (FloatOps.cmpfTotal .gt) v sliceFits_S1024x50000_S1024x18).2

/-- The columns' remainders by 1792. -/
@[expose] noncomputable def groups (w : IVec S1024x18 32) : IVec S1024x18 32 :=
  Host.remsi w (broadcastInDim S1024x18 ![] bcast_S_S1024x18 (constantI S_ 32 1792#32))

/-- Which rows' fourteenth is above the fifteenth. -/
@[expose] noncomputable def gapped (t : FVec Ideal S1024x18 .f32) : IVec S1024 1 :=
  cmpf .ogt (shapeCast S1024 (extractStridedSlice S1024x1 ![0, 13] t slices_S1024x18_S1024x1_0_13) shapeCasts_S1024x1_S1024)
    (shapeCast S1024 (extractStridedSlice S1024x1 ![0, 14] t slices_S1024x18_S1024x1_0_14) shapeCasts_S1024x1_S1024)

/-- Which pairs of the eighteen agree in value or remainder, the second before the first. -/
@[expose] noncomputable def clash (t : FVec Ideal S1024x18 .f32) (w : IVec S1024x18 32) : IVec S1024x18x18 1 :=
  andi (ori
    (cmpf .oeq
      (broadcastInDim S1024x18x18 ![0, 1, 2] bcast_S1024x18x1_S1024x18x18_0_1_2 (broadcastInDim S1024x18x1 ![0, 1] bcast_S1024x18_S1024x18x1_0_1 t))
      (broadcastInDim S1024x18x18 ![0, 1, 2] bcast_S1024x1x18_S1024x18x18_0_1_2 (broadcastInDim S1024x1x18 ![0, 2] bcast_S1024x18_S1024x1x18_0_2 t)))
    (cmpi .eq
      (broadcastInDim S1024x18x18 ![0, 1, 2] bcast_S1024x18x1_S1024x18x18_0_1_2 (broadcastInDim S1024x18x1 ![0, 1] bcast_S1024x18_S1024x18x1_0_1 w))
      (broadcastInDim S1024x18x18 ![0, 1, 2] bcast_S1024x1x18_S1024x18x18_0_1_2 (broadcastInDim S1024x1x18 ![0, 2] bcast_S1024x18_S1024x1x18_0_2 w))))
    (cmpi .slt (iotaInDim S1024x18x18 32 2) (iotaInDim S1024x18x18 32 1))

/-- Which of the eighteen clash with an earlier one. -/
@[expose] noncomputable def crowded (z : IVec S1024x18x18 1) : IVec S1024x18 1 :=
  cmpf .ogt (Host.reduceAdd (uitofp (F := Ideal) .f32 z) (constant (F := Ideal) S_ .f32 0x00000000#32) reducesTo_S1024x18x18_S1024x18_d2 h_S_)
    (broadcastInDim S1024x18 ![] bcast_S_S1024x18 (constant (F := Ideal) S_ .f32 0x00000000#32))

/-- Which rows hold at most three such. -/
@[expose] noncomputable def few (z : IVec S1024x18 1) : IVec S1024 1 :=
  cmpf .ole (Host.reduceAdd (uitofp (F := Ideal) .f32 z) (constant (F := Ideal) S_ .f32 0x00000000#32) reducesTo_S1024x18_S1024_d1 h_S_)
    (broadcastInDim S1024 ![] bcast_S_S1024 (constant (F := Ideal) S_ .f32 0x40400000#32))

/-- The precondition over the reference's negated distances. -/
theorem fn_eq (a0 : FVec Ideal S1024x3x32x32 .f32) (a1 : FVec Ideal S3072x3072 .f32) (a2 : FVec Ideal S50000x30 .f32)
    (a3 : FVec Ideal S50000x10 .f32) :
    fn (F := Ideal) a0 a1 a2 a3 = (dataBounded a2, projectorBounded a1,
      gapped (top18 (Cert.ReferenceIdeal.Read.val_main_v30 (F := Ideal) a0 a1 a2)),
      few (crowded (clash (top18 (Cert.ReferenceIdeal.Read.val_main_v30 (F := Ideal) a0 a1 a2))
        (groups (top18At (Cert.ReferenceIdeal.Read.val_main_v30 (F := Ideal) a0 a1 a2)))))) := rfl

/-- An extended real of bounded size is real. -/
theorem real_of_size {x : EReal} {b : ℝ} (h : max x (-x) ≤ (b : EReal)) : ∃ r : ℝ, x = r ∧ |r| ≤ b := by
  obtain ⟨h1, h2⟩ := max_le_iff.1 h
  induction x with
  | bot => simp at h2
  | top => simp at h1
  | coe r =>
    refine ⟨r, rfl, abs_le.2 ⟨?_, by exact_mod_cast h1⟩⟩
    have : -r ≤ b := by exact_mod_cast h2
    linarith

theorem eighth_word : Ideal.ofBits .f32 1040187392#32 = ((1 / 8 : ℝ) : EReal) := by
  simp [Ideal.ofBits, Ideal.ieee]
  norm_cast
  norm_num

theorem three_word : Ideal.ofBits .f32 1077936128#32 = ((3 : ℝ) : EReal) := by
  simp [Ideal.ofBits, Ideal.ieee]
  norm_cast
  norm_num

theorem data_real (a2 : FVec Ideal S50000x30 .f32) (h : dataBounded a2 = fun _ => 1#1) (i : Fin 50000) (k : Fin 30) :
    ∃ r : ℝ, a2 (ix2 i k) = r ∧ |r| ≤ 1 := by
  have h := congrFun h (ix2 i k)
  revert h
  unfold dataBounded
  pointwise
  rw [Ideal.absf_def]
  intro h
  refine real_of_size ?_
  by_contra hc
  rw [decide_eq_false (by simpa using hc)] at h
  exact absurd h (by decide)

theorem projector_real (a1 : FVec Ideal S3072x3072 .f32) (h : projectorBounded a1 = fun _ => 1#1) (i k : Fin 3072) :
    ∃ r : ℝ, a1 (ix2 i k) = r ∧ |r| ≤ 1 / 8 := by
  have h := congrFun h (ix2 i k)
  revert h
  unfold projectorBounded
  pointwise
  rw [Ideal.absf_def, eighth_word]
  intro h
  refine real_of_size ?_
  by_contra hc
  rw [decide_eq_false hc] at h
  exact absurd h (by decide)

theorem gap_of (t : FVec Ideal S1024x18 .f32) (h : gapped t = fun _ => 1#1) (q : Fin 1024) :
    t (ix2 q 14) < t (ix2 q 13) := by
  have h := congrFun h (ix1 q)
  revert h
  unfold gapped
  pointwise
  intro h
  by_contra hc
  rw [decide_eq_false hc] at h
  exact absurd h (by decide)

theorem groups_apply (w : IVec S1024x18 32) (q : Fin 1024) (a : Fin 18) (n : Nat) (hn : n < 50000)
    (h : w (ix2 q a) = BitVec.ofNat 32 n) : groups w (ix2 q a) = BitVec.ofNat 32 (n % 1792) := by
  unfold groups
  pointwise
  rw [h]
  have hw : (BitVec.ofNat 32 n).toNat = n := by rw [BitVec.toNat_ofNat]; omega
  have hr := IntOp.toNat_remsi .host (x := BitVec.ofNat 32 n) (by omega) 1792 (by norm_num) (by norm_num)
  rw [hw] at hr
  refine BitVec.eq_of_toNat_eq (hr.trans ?_)
  rw [BitVec.toNat_ofNat]
  omega

/-- Two of the eighteen clash. -/
theorem clash_iff (t : FVec Ideal S1024x18 .f32) (w : IVec S1024x18 32) (q : Fin 1024) (a b : Fin 18) :
    clash t w (ix3 q a b) = 1#1 ↔ (t (ix2 q a) = t (ix2 q b) ∨ w (ix2 q a) = w (ix2 q b)) ∧ b < a := by
  have hs : IntOp.cmpi .slt (BitVec.ofNat 32 b.val) (BitVec.ofNat 32 a.val) = BitVec.ofBool (decide (b < a)) := by
    revert a b
    decide
  unfold clash
  pointwise
  rw [hs, show IntOp.cmpi .eq (w (ix2 q a)) (w (ix2 q b)) = BitVec.ofBool (decide (w (ix2 q a) = w (ix2 q b))) from rfl]
  by_cases h1 : t (ix2 q a) = t (ix2 q b) <;> by_cases h2 : w (ix2 q a) = w (ix2 q b) <;> by_cases h3 : b < a <;>
    simp only [h1, h2, h3, decide_true, decide_false] <;> decide

/-- A sum of bits is how many are set. -/
theorem sum_bits {n : Nat} (z : Fin n → BitVec 1) :
    (∑ x, (FloatOps.uitofp .f32 (z x) : Ideal .f32)) = (((Finset.univ.filter fun x => z x = 1#1).card : ℝ) : EReal) := by
  rw [← Finset.sum_boole, coe_sum]
  refine Finset.sum_congr rfl fun x _ => ?_
  change (((z x).toNat : ℝ) : EReal) = _
  rcases BitVec.eq_zero_or_eq_one (z x) with h | h <;> simp [h]

theorem crowded_of (z : IVec S1024x18x18 1) (q : Fin 1024) (a b : Fin 18) (h : z (ix3 q a b) = 1#1) :
    crowded z (ix2 q a) = 1#1 := by
  unfold crowded
  pointwise
  rw [sum_bits fun x => z (ix3 q a x)]
  have : 0 < (Finset.univ.filter fun x => z (ix3 q a x) = 1#1).card := Finset.card_pos.2 ⟨b, by simpa using h⟩
  rw [decide_eq_true]
  · rfl
  · exact_mod_cast this

theorem few_of (z : IVec S1024x18 1) (h : few z = fun _ => 1#1) (q : Fin 1024) :
    (Finset.univ.filter fun a : Fin 18 => z (ix2 q a) = 1#1).card ≤ 3 := by
  have h := congrFun h (ix1 q)
  revert h
  unfold few
  pointwise
  rw [sum_bits fun x => z (ix2 q x), three_word]
  intro h
  by_contra hc
  rw [decide_eq_false (by exact_mod_cast hc)] at h
  exact absurd h (by decide)

/-- At least fifteen of the eighteen agree with no earlier one in value or group. -/
theorem fresh_of (t : FVec Ideal S1024x18 .f32) (w : IVec S1024x18 32) (h : few (crowded (clash t w)) = fun _ => 1#1)
    (q : Fin 1024) (s : Finset (Fin 18))
    (hs : ∀ a, a ∉ s → ∃ b, b < a ∧ (t (ix2 q a) = t (ix2 q b) ∨ w (ix2 q a) = w (ix2 q b))) : 15 ≤ s.card := by
  have h3 := few_of _ h q
  have hsub : sᶜ ⊆ Finset.univ.filter fun a : Fin 18 => crowded (clash t w) (ix2 q a) = 1#1 := by
    intro a ha
    obtain ⟨b, hb, hab⟩ := hs a (Finset.mem_compl.1 ha)
    exact Finset.mem_filter.2 ⟨Finset.mem_univ a, crowded_of _ q a b ((clash_iff t w q a b).2 ⟨hab, hb⟩)⟩
  have := (Finset.card_le_card hsub).trans h3
  rw [Finset.card_compl, Fintype.card_fin] at this
  omega

section
variable (a0 : FVec Ideal S1024x3x32x32 .f32) (a1 : FVec Ideal S3072x3072 .f32) (a2 : FVec Ideal S50000x30 .f32)

theorem top18_apply (q : Fin 1024) (a : Fin 18) : top18 (Cert.ReferenceIdeal.Read.val_main_v30 (F := Ideal) a0 a1 a2) (ix2 q a)
    = -away a0 a1 a2 q (nearest a0 a1 a2 q ⟨a.val, by omega⟩) := by
  rw [← negated_apply]
  exact topK_value _ _ q a (by omega)

theorem top18At_apply (q : Fin 1024) (a : Fin 18) : top18At (Cert.ReferenceIdeal.Read.val_main_v30 (F := Ideal) a0 a1 a2) (ix2 q a)
    = BitVec.ofNat 32 (nearest a0 a1 a2 q ⟨a.val, by omega⟩).val :=
  topK_index _ _ q a (by omega)

/-- The fifteenth row is farther than the fourteenth. -/
theorem away_gap (h : gapped (top18 (Cert.ReferenceIdeal.Read.val_main_v30 (F := Ideal) a0 a1 a2)) = fun _ => 1#1) (q : Fin 1024) :
    away a0 a1 a2 q (nearest a0 a1 a2 q ⟨13, by omega⟩) < away a0 a1 a2 q (nearest a0 a1 a2 q ⟨14, by omega⟩) := by
  have := gap_of _ h q
  rw [top18_apply, top18_apply, EReal.neg_lt_neg_iff] at this
  exact this

/-- A set holding every one of the eighteen which agrees with no earlier one holds fifteen. -/
theorem away_fresh (h : few (crowded (clash (top18 (Cert.ReferenceIdeal.Read.val_main_v30 (F := Ideal) a0 a1 a2))
      (groups (top18At (Cert.ReferenceIdeal.Read.val_main_v30 (F := Ideal) a0 a1 a2))))) = fun _ => 1#1) (q : Fin 1024)
    (s : Finset (Fin 18))
    (hs : ∀ a, a ∉ s → ∃ b, b < a ∧
      (away a0 a1 a2 q (nearest a0 a1 a2 q ⟨a.val, by omega⟩) = away a0 a1 a2 q (nearest a0 a1 a2 q ⟨b.val, by omega⟩)
        ∨ (nearest a0 a1 a2 q ⟨a.val, by omega⟩).val % 1792 = (nearest a0 a1 a2 q ⟨b.val, by omega⟩).val % 1792)) :
    15 ≤ s.card := by
  refine fresh_of _ _ h q s fun a ha => ?_
  obtain ⟨b, hb, hab⟩ := hs a ha
  refine ⟨b, hb, ?_⟩
  rw [top18_apply, top18_apply, groups_apply _ q a _ (Fin.isLt _) (top18At_apply a0 a1 a2 q a),
    groups_apply _ q b _ (Fin.isLt _) (top18At_apply a0 a1 a2 q b)]
  rcases hab with h | h
  · exact Or.inl (by rw [h])
  · exact Or.inr (by rw [h])

end

end Nearest
-- ==== Proof.Match.lean ====
/-
  Under the precondition the kernel's result is the reference's: each query's eighteen nearest rows of the data are the
  eighteen nearest of the lengthened data, and the kernel's fifteen are the first of them.
-/
module

public import proofs.«01_k».proof.Proof.KernelRows
public import proofs.«01_k».proof.Proof.Near

public section

open Idealize.ShloMosaic Cert.Pre_nearest_apart

namespace Nearest

/-- Row `i` of the data, as a row of the lengthened data. -/
@[expose] def longer (i : Fin 50000) : Fin 50176 := ⟨i.val, by omega⟩

/-- An order of the data's rows by distance and then index ranks the lengthened data, whose further rows are farther. -/
theorem ranked_of (n : Fin 50000 → Fin 50000) (c : Fin 50000 → EReal) (d : Fin 50176 → EReal)
    (hlex : ∀ i j, i < j → c (n i) < c (n j) ∨ c (n i) = c (n j) ∧ n i < n j) (hsurj : Function.Surjective n)
    (hdata : ∀ i, d (longer i) = c i) (hpad : ∀ (i : Fin 50000) (j : Fin 50176), ¬ j.val < 50000 → d (longer i) < d j)
    (hreal : ∀ i, ⊥ < d i ∧ d i < ⊤) (hgap : c (n ⟨13, by omega⟩) < c (n ⟨14, by omega⟩))
    (hfresh : ∀ s : Finset (Fin 18), (∀ a, a ∉ s → ∃ b, b < a ∧ (c (n ⟨a.val, by omega⟩) = c (n ⟨b.val, by omega⟩)
        ∨ (n ⟨a.val, by omega⟩).val % 1792 = (n ⟨b.val, by omega⟩).val % 1792)) → 15 ≤ s.card) :
    Ranked d fun a => longer (n ⟨a.val, by omega⟩) where
  lex a b hab := by
    rw [hdata, hdata]
    exact hlex ⟨a.val, by omega⟩ ⟨b.val, by omega⟩ hab
  rest i hi a := by
    by_cases hd : i.val < 50000
    · obtain ⟨j, hj⟩ := hsurj ⟨i.val, hd⟩
      have hij : longer (n j) = i := by rw [hj]; rfl
      rw [← hij, hdata, hdata]
      refine hlex _ _ ?_
      by_contra hlt
      have hlt : j.val ≤ a.val := not_lt.1 hlt
      exact hi ⟨j.val, by omega⟩ hij
    · exact Or.inl (hpad _ i hd)
  gap := by
    rw [hdata, hdata]
    exact hgap
  fresh := by
    refine hfresh _ fun a ha => ?_
    simp only [Finset.mem_filter, Finset.mem_univ, true_and, hdata] at ha
    push Not at ha
    obtain ⟨b, hb, hab⟩ := ha
    refine ⟨b, hb, ?_⟩
    by_cases he : c (n ⟨b.val, by omega⟩) = c (n ⟨a.val, by omega⟩)
    · exact Or.inl he.symm
    · exact Or.inr (congrArg Fin.val (hab he)).symm
  low i := (hreal i).1
  high := (hreal _).2

variable (a0 : FVec Ideal S1024x3x32x32 .f32) (a1 : FVec Ideal S3072x3072 .f32) (a2 : FVec Ideal S50000x30 .f32)
  (a3 : FVec Ideal S50000x10 .f32)

/-- The precondition on four arrays. -/
@[expose] def Apart : Prop :=
  (fn (F := Ideal) a0 a1 a2 a3).1 = (fun _ => 1#1) ∧ (fn (F := Ideal) a0 a1 a2 a3).2.1 = (fun _ => 1#1)
    ∧ (fn (F := Ideal) a0 a1 a2 a3).2.2.1 = (fun _ => 1#1) ∧ (fn (F := Ideal) a0 a1 a2 a3).2.2.2 = (fun _ => 1#1)

variable {a0 a1 a2 a3}

/-- A query's projection is real and of bounded size. -/
theorem queryP_real (h : Apart a0 a1 a2 a3) (q : Fin 1024) (k : Fin 30) : ∃ r : ℝ, queryP a0 a1 q k = r ∧ |r| ≤ 384 := by
  unfold Apart at h
  rw [fn_eq] at h
  obtain ⟨hd, hp, -, hf⟩ := h
  rcases projected_cases (query a0 q) (fun j => a1 (ix2 j ⟨k.val, by omega⟩)) (fun j => projector_real a1 hp j _) with hk | hk
  · exfalso
    have two : ∀ i, away a0 a1 a2 q i = ⊤ ∨ away a0 a1 a2 q i = Ideal.sqrt floor2 := by
      intro i
      choose δ hδ _ using fun k => data_real a2 hd i k
      unfold away
      simp only [hδ]
      exact distance_two δ _ k hk
    classical
    have h15 := away_fresh a0 a1 a2 hf q (Finset.univ.filter fun a : Fin 18 => ∀ b, b < a →
        away a0 a1 a2 q (nearest a0 a1 a2 q ⟨a.val, by omega⟩) ≠ away a0 a1 a2 q (nearest a0 a1 a2 q ⟨b.val, by omega⟩)) (by
      intro a ha
      simp only [Finset.mem_filter, Finset.mem_univ, true_and] at ha
      push Not at ha
      obtain ⟨b, hb, hab⟩ := ha
      exact ⟨b, hb, Or.inl hab⟩)
    have h2 : (Finset.univ.filter fun a : Fin 18 => ∀ b, b < a →
        away a0 a1 a2 q (nearest a0 a1 a2 q ⟨a.val, by omega⟩) ≠ away a0 a1 a2 q (nearest a0 a1 a2 q ⟨b.val, by omega⟩)).card
        ≤ ({⊤, Ideal.sqrt floor2} : Finset EReal).card := by
      refine Finset.card_le_card_of_injOn (fun a => away a0 a1 a2 q (nearest a0 a1 a2 q ⟨a.val, by omega⟩)) ?_ ?_
      · intro a _
        rcases two (nearest a0 a1 a2 q ⟨a.val, by omega⟩) with e | e <;> simp [e]
      · intro a ha b hb hab
        have ha := (Finset.mem_filter.1 (Finset.mem_coe.1 ha)).2
        have hb := (Finset.mem_filter.1 (Finset.mem_coe.1 hb)).2
        rcases lt_trichotomy a b with hl | hl | hl
        · exact absurd hab.symm (hb a hl)
        · exact hl
        · exact absurd hab (ha b hl)
    have := h15.trans (h2.trans Finset.card_le_two)
    omega
  · exact hk

/-- The kernel's distance to a row of the data is the reference's. -/
theorem awayK_data (h : Apart a0 a1 a2 a3) (q : Fin 1024) (i : Fin 50176) (hi : i.val < 50000) :
    awayK a0 a1 a2 q i = away a0 a1 a2 q ⟨i.val, hi⟩ := by
  choose π hπ _ using queryP_real h q
  unfold Apart at h
  rw [fn_eq] at h
  choose δ hδ _ using fun k => data_real a2 h.1 ⟨i.val, hi⟩ k
  have hq : queryP a0 a1 q = fun k => (π k : EReal) := funext hπ
  have he : extended a2 i = fun k => (δ k : EReal) := funext fun k => by unfold extended; rw [dif_pos hi, hδ]
  unfold awayK away
  rw [hq, he]
  simp only [hδ]
  rw [distanceK_real, distance_real]

/-- Every distance is real. -/
theorem awayK_real (h : Apart a0 a1 a2 a3) (q : Fin 1024) (i : Fin 50176) : ⊥ < awayK a0 a1 a2 q i ∧ awayK a0 a1 a2 q i < ⊤ := by
  choose π hπ _ using queryP_real h q
  unfold Apart at h
  rw [fn_eq] at h
  have hq : queryP a0 a1 q = fun k => (π k : EReal) := funext hπ
  have he : ∃ δ : Fin 30 → ℝ, extended a2 i = fun k => (δ k : EReal) := by
    by_cases hi : i.val < 50000
    · choose δ hδ _ using fun k => data_real a2 h.1 ⟨i.val, hi⟩ k
      exact ⟨δ, funext fun k => by unfold extended; rw [dif_pos hi, hδ]⟩
    · exact ⟨fun _ => 1000, funext fun k => by unfold extended; rw [dif_neg hi, thousand_word]⟩
  obtain ⟨δ, he⟩ := he
  unfold awayK
  rw [hq, he, distanceK_real]
  exact ⟨root_bot δ π, root_top δ π⟩

/-- The rows past the data's end are farther than all its rows. -/
theorem awayK_pad (h : Apart a0 a1 a2 a3) (q : Fin 1024) (i j : Fin 50176) (hi : i.val < 50000) (hj : ¬ j.val < 50000) :
    awayK a0 a1 a2 q i < awayK a0 a1 a2 q j := by
  choose π hπ hπ' using queryP_real h q
  unfold Apart at h
  rw [fn_eq] at h
  choose δ hδ hδ' using fun k => data_real a2 h.1 ⟨i.val, hi⟩ k
  have hq : queryP a0 a1 q = fun k => (π k : EReal) := funext hπ
  have he : extended a2 i = fun k => (δ k : EReal) := funext fun k => by unfold extended; rw [dif_pos hi, hδ]
  have he' : extended a2 j = fun k => (((fun _ => 1000 : Fin 30 → ℝ) k : ℝ) : EReal) :=
    funext fun k => by unfold extended; rw [dif_neg hj, thousand_word]
  unfold awayK
  rw [hq, he, he', distanceK_real, distanceK_real]
  exact root_pad δ π hδ' hπ'

theorem awayK_longer (h : Apart a0 a1 a2 a3) (q : Fin 1024) (i : Fin 50000) : awayK a0 a1 a2 q (longer i) = away a0 a1 a2 q i :=
  awayK_data h q (longer i) i.isLt

/-- A query's eighteen nearest rows, ranked among the lengthened data's. -/
theorem ranked (h : Apart a0 a1 a2 a3) (q : Fin 1024) :
    Ranked (awayK a0 a1 a2 q) fun a => longer (nearest a0 a1 a2 q ⟨a.val, by omega⟩) := by
  have hf := h
  unfold Apart at hf
  rw [fn_eq] at hf
  exact ranked_of (nearest a0 a1 a2 q) (away a0 a1 a2 q) (awayK a0 a1 a2 q) (nearest_lex a0 a1 a2 q) (nearest_surjective a0 a1 a2 q)
    (awayK_longer h q) (fun i j hj => awayK_pad h q (longer i) j i.isLt hj) (awayK_real h q)
    (away_gap a0 a1 a2 hf.2.2.1 q) (away_fresh a0 a1 a2 hf.2.2.2 q)

theorem labels_row (i : Fin 50000) (l : Fin 10) : labelsIn a3 (ix2 (longer i) ⟨l.val, by omega⟩) = a3 (ix2 i l) := by
  rw [labelsIn_apply, dif_pos ⟨i.isLt, l.isLt⟩]
  rfl

/-- The kernel's result at an index is the reference's. -/
theorem resultAt_eq (h : Apart a0 a1 a2 a3) (q : Fin 1024) (l : Fin 10) :
    resultAt a0 a1 a2 a3 q l = Cert.ReferenceIdeal.Read.val_main_v45 (F := Ideal) a0 a1 a2 a3 (ix2 q l) := by
  rw [reference_apply]
  unfold resultAt
  refine congrArg Ideal.log (((ranked h q).sum_picked _).trans (Finset.sum_congr rfl fun r _ => ?_))
  exact congrArg₂ (fun x y => Ideal.exp (-x) * y) (awayK_longer h q _) (labels_row _ l)

/-- The kernel's result is the reference's. -/
theorem resultK_eq (h : Apart a0 a1 a2 a3) :
    resultK a0 a1 a2 a3 = Cert.ReferenceIdeal.Read.val_main_v45 (F := Ideal) a0 a1 a2 a3 := by
  funext y
  refine (resultAt_eq h (y 0) (y 1)).trans (congrArg _ ?_)
  exact (eq_ix2 y).symm

end Nearest
-- ==== Proof.Run.lean ====
/-
  The kernel's run, with the result array it leaves.
-/
module

public import proofs.«01_k».proof.Proof.KernelRows

public section

set_option maxRecDepth 16384

namespace Nearest

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

-- the launch rule's implicit arguments are found by unifying its conclusion with the statement
set_option backward.isDefEq.respectTransparency.types false in
/-- Every run ends with each of the core's buffers at the contents the two kernels and the host's operations leave. -/
theorem run_ends : θ_run defs (onTc (τ := τ) (main (F := Ideal))) ⟨m, fun _ => 0, ρ⟩ (fun r => ∀ c : Dev nD,
    ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

/-- Every run ends with the result array at `resultK` of the arguments, and the arguments as they were. -/
theorem kernel_run : θ_run defs (onTc (τ := τ) (main (F := Ideal))) ⟨m, fun _ => 0, ρ⟩ (fun r => ∀ c : Dev nD,
    r.2.mem ((c.tc : Thread nD τ).loc main_v10)
        = resultK (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v10 (by decide))).trans (result_array m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c)⟩) (run_ends m ρ)

end Nearest
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.PreFacts
public import proofs.«01_k».proof.Proof.Match
public import proofs.«01_k».proof.Proof.Run
public import Idealize.ShloMosaic.Adequacy
public import Idealize.ShloMosaic.Init

@[expose] public section

noncomputable section

namespace Cert.Proof

open Idealize.ShloMosaic Idealize.SL.Sem Cert.Kernel

/-- The reference's frame: its run leaves the arguments as they were, and it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference leave the same result, given the precondition. -/
theorem results_agree : Cert.algebraic_KernelIdeal_ReferenceIdeal_pre_nearest_apart := by
  intro m g m' g' hpre harg
  refine ⟨fun c => Nearest.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Nearest.kernel_run m g,
    (θ_run Cert.ReferenceIdeal.defs _ _).mono (fun r h c => ⟨(h c).1.trans ?_, (h c).2⟩)
      (Cert.ReferenceIdeal.Value.run (F := Ideal) m' g')⟩
  obtain ⟨h0, h1, h2, h3⟩ := harg c
  refine (Cert.ReferenceIdeal.Read.val_main_v45_eq m' c).trans (Eq.trans ?_ (Nearest.resultK_eq (hpre c)).symm)
  rw [h0, h1, h2, h3]

/-- The frames of the three programs, with and without the precondition; the ideal kernel being the kernel's own text;
    and the two results agreeing. -/
theorem claim : Cert.Claim :=
  ⟨Cert.Kernel.Gen.facts, Cert.KernelIdeal.Gen.facts, Cert.ReferenceIdeal.Gen.facts, Cert.Pre_nearest_apart.holds,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    results_agree⟩

end Cert.Proof

end
